-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_of_do_are_scales [hPre_scales_of_do_are_scales : Cert.Pre_scales_of_do_are_scales.Facts] (m : (ℓ : Loc Cert.KernelIdeal.nD Cert.KernelIdeal.τ Cert.KernelIdeal.sig) → Buf (Elt Ideal) ℓ) : Prop :=
  ∀ c : Dev Cert.KernelIdeal.nD,
    (Cert.Pre_scales_of_do_are_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_of_do_are_scales [hPre_scales_of_do_are_scales : Cert.Pre_scales_of_do_are_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_of_do_are_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_of_do_are_scales [hKernelIdeal : Cert.KernelIdeal.Facts] [hPre_scales_of_do_are_scales : Cert.Pre_scales_of_do_are_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_of_do_are_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_of_do_are_scales [hReferenceIdeal : Cert.ReferenceIdeal.Facts] [hPre_scales_of_do_are_scales : Cert.Pre_scales_of_do_are_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_of_do_are_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_of_do_are_scales [hKernelIdeal : Cert.KernelIdeal.Facts] [hReferenceIdeal : Cert.ReferenceIdeal.Facts] [hPre_scales_of_do_are_scales : Cert.Pre_scales_of_do_are_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_of_do_are_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_of_do_are_scales : Cert.Pre_scales_of_do_are_scales.Facts),
    quiescent_Kernel (hKernel := hKernel)
    ∧ quiescent_KernelIdeal (hKernelIdeal := hKernelIdeal)
    ∧ quiescent_KernelIdeal_pre_scales_of_do_are_scales (hKernelIdeal := hKernelIdeal) (hPre_scales_of_do_are_scales := hPre_scales_of_do_are_scales)
    ∧ quiescent_ReferenceIdeal (hReferenceIdeal := hReferenceIdeal)
    ∧ quiescent_ReferenceIdeal_pre_scales_of_do_are_scales (hReferenceIdeal := hReferenceIdeal) (hPre_scales_of_do_are_scales := hPre_scales_of_do_are_scales)
    ∧ preserves_Kernel_KernelIdeal
    ∧ algebraic_KernelIdeal_ReferenceIdeal_pre_scales_of_do_are_scales (hKernelIdeal := hKernelIdeal) (hReferenceIdeal := hReferenceIdeal) (hPre_scales_of_do_are_scales := hPre_scales_of_do_are_scales)
-- ==== Pre_scales_of_do_are_scales.lean ====
abbrev S1x1024x32x64 : Shape := ⟨4, ![1, 1024, 32, 64]⟩
abbrev S32 : Shape := ⟨1, ![32]⟩
abbrev S1x1024x4x64 : Shape := ⟨4, ![1, 1024, 4, 64]⟩
abbrev S4 : Shape := ⟨1, ![4]⟩
abbrev S1x32x1024 : Shape := ⟨3, ![1, 32, 1024]⟩
abbrev S1x1024x32 : Shape := ⟨3, ![1, 1024, 32]⟩
abbrev S_ : Shape := ⟨0, ![]⟩

class Facts : Prop where
  bcast_S_S1x1024x32 : S_.BroadcastsInDim S1x1024x32 (![] : Fin 0 → Fin S1x1024x32.rank)
  reducesTo_S1x1024x32_S_d0_1_2 : S1x1024x32.ReducesTo [0, 1, 2] S_
  h_S_ : 0 < S_.numel

variable [Facts]

def fn {F : FTy → Type} [FloatOps F] (main_arg0 : FVec F S1x1024x32x64 .fp8e4m3) (main_arg1 : FVec F S32 .f32) (main_arg2 : FVec F S1x1024x4x64 .fp8e4m3) (main_arg3 : FVec F S4 .f32) (main_arg4 : FVec F S1x1024x4x64 .fp8e4m3) (main_arg5 : FVec F S4 .f32) (main_arg6 : FVec F S1x1024x32x64 .bf16) (main_arg7 : FVec F S1x32x1024 .f32) (main_arg8 : FVec F S1x1024x32x64 .fp8e5m2) (main_arg9 : FVec F S1x1024x32 .f32) : IVec S_ 1 :=
  let main_cst : FVec F S_ .f32 := constant S_ .f32 0x00000000#32
  let main_v0 : FVec F S1x1024x32 .f32 := broadcastInDim S1x1024x32 ![] bcast_S_S1x1024x32 main_cst
  let main_v1 : IVec S1x1024x32 1 := cmpf .oge main_arg9 main_v0
  let main_cst_0 : FVec F S_ .f32 := constant S_ .f32 0x7F800000#32
  let main_v2 : FVec F S1x1024x32 .f32 := broadcastInDim S1x1024x32 ![] bcast_S_S1x1024x32 main_cst_0
  let main_v3 : IVec S1x1024x32 1 := cmpf .olt main_arg9 main_v2
  let main_v4 : IVec S1x1024x32 1 := andi main_v1 main_v3
  let main_c : IVec S_ 1 := constantI S_ 1 1#1
  let main_v5 : IVec S_ 1 := (fun x v => Host.reduce IntOp.andi x v reducesTo_S1x1024x32_S_d0_1_2 h_S_) main_v4 main_c
  main_v5
-- ==== Kernel.lean ====
abbrev S1x1024x32x64 : Shape := ⟨4, ![1, 1024, 32, 64]⟩
abbrev S32 : Shape := ⟨1, ![32]⟩
abbrev S1x1024x4x64 : Shape := ⟨4, ![1, 1024, 4, 64]⟩
abbrev S4 : Shape := ⟨1, ![4]⟩
abbrev S1x32x1024 : Shape := ⟨3, ![1, 32, 1024]⟩
abbrev S1x1024x32 : Shape := ⟨3, ![1, 1024, 32]⟩
abbrev S1x32x64x1024 : Shape := ⟨4, ![1, 32, 64, 1024]⟩
abbrev S32x64x1024 : Shape := ⟨3, ![32, 64, 1024]⟩
abbrev S1x4x64x1024 : Shape := ⟨4, ![1, 4, 64, 1024]⟩
abbrev S4x64x1024 : Shape := ⟨3, ![4, 64, 1024]⟩
abbrev S32x1024 : Shape := ⟨2, ![32, 1024]⟩
abbrev S1024x32 : Shape := ⟨2, ![1024, 32]⟩
abbrev S1x64x1024 : Shape := ⟨3, ![1, 64, 1024]⟩
abbrev S8x1024 : Shape := ⟨2, ![8, 1024]⟩
abbrev S1024x64 : Shape := ⟨2, ![1024, 64]⟩
abbrev S64x1024 : Shape := ⟨2, ![64, 1024]⟩
abbrev S1 : Shape := ⟨1, ![1]⟩
abbrev S1x1024 : Shape := ⟨2, ![1, 1024]⟩
abbrev S1024 : Shape := ⟨1, ![1024]⟩
abbrev S256x64 : Shape := ⟨2, ![256, 64]⟩
abbrev S1x64x256 : Shape := ⟨3, ![1, 64, 256]⟩
abbrev S64x256 : Shape := ⟨2, ![64, 256]⟩
abbrev S256x256 : Shape := ⟨2, ![256, 256]⟩
abbrev S1x256 : Shape := ⟨2, ![1, 256]⟩

abbrev nBuf : Space → Nat
  | .hbm => 32
  | .vmem => 25
  | .smem => 3
  | _ => 0

abbrev bufTy : (tb : Table) → Fin (tcTables nBuf tb) → BufTy
  | .hbm, ⟨0, _⟩ => ⟨S1x1024x32x64, .fp8e4m3⟩
  | .hbm, ⟨1, _⟩ => ⟨S32, .f32⟩
  | .hbm, ⟨2, _⟩ => ⟨S1x1024x4x64, .fp8e4m3⟩
  | .hbm, ⟨3, _⟩ => ⟨S4, .f32⟩
  | .hbm, ⟨4, _⟩ => ⟨S1x1024x4x64, .fp8e4m3⟩
  | .hbm, ⟨5, _⟩ => ⟨S4, .f32⟩
  | .hbm, ⟨6, _⟩ => ⟨S1x1024x32x64, .bf16⟩
  | .hbm, ⟨7, _⟩ => ⟨S1x32x1024, .f32⟩
  | .hbm, ⟨8, _⟩ => ⟨S1x1024x32x64, .fp8e5m2⟩
  | .hbm, ⟨9, _⟩ => ⟨S1x1024x32, .f32⟩
  | .hbm, ⟨10, _⟩ => ⟨S1x32x64x1024, .fp8e4m3⟩
  | .hbm, ⟨11, _⟩ => ⟨S32x64x1024, .fp8e4m3⟩
  | .hbm, ⟨12, _⟩ => ⟨S1x4x64x1024, .fp8e4m3⟩
  | .hbm, ⟨13, _⟩ => ⟨S4x64x1024, .fp8e4m3⟩
  | .hbm, ⟨14, _⟩ => ⟨S1x4x64x1024, .fp8e4m3⟩
  | .hbm, ⟨15, _⟩ => ⟨S4x64x1024, .fp8e4m3⟩
  | .hbm, ⟨16, _⟩ => ⟨S1x32x64x1024, .bf16⟩
  | .hbm, ⟨17, _⟩ => ⟨S32x64x1024, .bf16⟩
  | .hbm, ⟨18, _⟩ => ⟨S32x1024, .f32⟩
  | .hbm, ⟨19, _⟩ => ⟨S1x32x64x1024, .fp8e5m2⟩
  | .hbm, ⟨20, _⟩ => ⟨S32x64x1024, .fp8e5m2⟩
  | .hbm, ⟨21, _⟩ => ⟨S1024x32, .f32⟩
  | .hbm, ⟨22, _⟩ => ⟨S32x1024, .f32⟩
  | .hbm, ⟨23, _⟩ => ⟨S32x64x1024, .bf16⟩
  | .hbm, ⟨24, _⟩ => ⟨S4x64x1024, .bf16⟩
  | .hbm, ⟨25, _⟩ => ⟨S4x64x1024, .bf16⟩
  | .hbm, ⟨26, _⟩ => ⟨S1x32x64x1024, .bf16⟩
  | .hbm, ⟨27, _⟩ => ⟨S1x1024x32x64, .bf16⟩
  | .hbm, ⟨28, _⟩ => ⟨S1x4x64x1024, .bf16⟩
  | .hbm, ⟨29, _⟩ => ⟨S1x1024x4x64, .bf16⟩
  | .hbm, ⟨30, _⟩ => ⟨S1x4x64x1024, .bf16⟩
  | .hbm, ⟨31, _⟩ => ⟨S1x1024x4x64, .bf16⟩
  | .local _ .vmem, ⟨0, _⟩ => ⟨S1x64x1024, .fp8e4m3⟩
  | .local _ .vmem, ⟨1, _⟩ => ⟨S1x64x1024, .fp8e4m3⟩
  | .local _ .vmem, ⟨2, _⟩ => ⟨S1x64x1024, .fp8e4m3⟩
  | .local _ .vmem, ⟨3, _⟩ => ⟨S1x64x1024, .fp8e4m3⟩
  | .local _ .vmem, ⟨4, _⟩ => ⟨S1x64x1024, .fp8e4m3⟩
  | .local _ .vmem, ⟨5, _⟩ => ⟨S1x64x1024, .fp8e4m3⟩
  | .local _ .vmem, ⟨6, _⟩ => ⟨S1x64x1024, .bf16⟩
  | .local _ .vmem, ⟨7, _⟩ => ⟨S1x64x1024, .bf16⟩
  | .local _ .vmem, ⟨8, _⟩ => ⟨S8x1024, .f32⟩
  | .local _ .vmem, ⟨9, _⟩ => ⟨S8x1024, .f32⟩
  | .local _ .vmem, ⟨10, _⟩ => ⟨S1x64x1024, .fp8e5m2⟩
  | .local _ .vmem, ⟨11, _⟩ => ⟨S1x64x1024, .fp8e5m2⟩
  | .local _ .vmem, ⟨12, _⟩ => ⟨S8x1024, .f32⟩
  | .local _ .vmem, ⟨13, _⟩ => ⟨S8x1024, .f32⟩
  | .local _ .vmem, ⟨14, _⟩ => ⟨S1x64x1024, .bf16⟩
  | .local _ .vmem, ⟨15, _⟩ => ⟨S1x64x1024, .bf16⟩
  | .local _ .vmem, ⟨16, _⟩ => ⟨S1x64x1024, .bf16⟩
  | .local _ .vmem, ⟨17, _⟩ => ⟨S1x64x1024, .bf16⟩
  | .local _ .vmem, ⟨18, _⟩ => ⟨S1x64x1024, .bf16⟩
  | .local _ .vmem, ⟨19, _⟩ => ⟨S1x64x1024, .bf16⟩
  | .local _ .vmem, ⟨20, _⟩ => ⟨S1024x64, .fp8e4m3⟩
  | .local _ .vmem, ⟨21, _⟩ => ⟨S1024x64, .bf16⟩
  | .local _ .vmem, ⟨22, _⟩ => ⟨S64x1024, .bf16⟩
  | .local _ .vmem, ⟨23, _⟩ => ⟨S64x1024, .f32⟩
  | .local _ .vmem, ⟨24, _⟩ => ⟨S64x1024, .f32⟩
  | .local _ .smem, ⟨0, _⟩ => ⟨S32, .f32⟩
  | .local _ .smem, ⟨1, _⟩ => ⟨S4, .f32⟩
  | .local _ .smem, ⟨2, _⟩ => ⟨S4, .f32⟩
  | _, _ => ⟨S1x1024x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def k0_off1 (i : grid0.Coords) : Fin 1 → Nat :=
  let arg0 : BitVec 32 := BitVec.ofNat 32 (i 0).val
  let v30 : Index := Scalar.indexCast arg0
  ![v30.toNat]
def k0_off2 (i : grid0.Coords) : Fin 1 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let v10 : BitVec 32 := Scalar.divsi arg0 c8_i32_3
  let c1_i32_9 : BitVec 32 := 1#32
  let v25 : BitVec 32 := Scalar.subi v10 c1_i32_9
  let v26 : BitVec 32 := Scalar.select v24 v25 v10
  let v32 : Index := Scalar.indexCast v26
  ![v32.toNat]
def k0_off3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v41 : Index := Scalar.indexCast v9
  let c0_14 : Index := 0#32
  ![v41.toNat, 0]
def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let v465 : BitVec 1 := Scalar.cmpi .eq v9 c7_i32
  let v466 : BitVec 32 := Scalar.extui v465
  let c0_i32_223 : BitVec 32 := 0#32
  let v467 : BitVec 1 := Scalar.cmpi .ne v466 c0_i32_223
  v467

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1x1024x32x64 : Shape := ⟨4, ![1, 1024, 32, 64]⟩
abbrev S32 : Shape := ⟨1, ![32]⟩
abbrev S1x1024x4x64 : Shape := ⟨4, ![1, 1024, 4, 64]⟩
abbrev S4 : Shape := ⟨1, ![4]⟩
abbrev S1x32x1024 : Shape := ⟨3, ![1, 32, 1024]⟩
abbrev S1x1024x32 : Shape := ⟨3, ![1, 1024, 32]⟩
abbrev S1x1024x4x8x64 : Shape := ⟨5, ![1, 1024, 4, 8, 64]⟩
abbrev S1x1024x32x1 : Shape := ⟨4, ![1, 1024, 32, 1]⟩
abbrev S1x4x8x1024 : Shape := ⟨4, ![1, 4, 8, 1024]⟩
abbrev S4x8 : Shape := ⟨2, ![4, 8]⟩
abbrev S4x1 : Shape := ⟨2, ![4, 1]⟩
abbrev S_ : Shape := ⟨0, ![]⟩
abbrev S1x4x8x1x1 : Shape := ⟨5, ![1, 4, 8, 1, 1]⟩
abbrev S1x4x1x1x1 : Shape := ⟨5, ![1, 4, 1, 1, 1]⟩
abbrev S1x1x4x1x1 : Shape := ⟨5, ![1, 1, 4, 1, 1]⟩
abbrev S4x8x1 : Shape := ⟨3, ![4, 8, 1]⟩
abbrev S1x1x4x8x1 : Shape := ⟨5, ![1, 1, 4, 8, 1]⟩
abbrev S1x1024x4x8 : Shape := ⟨4, ![1, 1024, 4, 8]⟩
abbrev S1x1024x4x8x1 : Shape := ⟨5, ![1, 1024, 4, 8, 1]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x4x1024x1024x8 : Shape := ⟨5, ![1, 4, 1024, 1024, 8]⟩
abbrev S1x4x8x1024x1024 : Shape := ⟨5, ![1, 4, 8, 1024, 1024]⟩
abbrev S1x4x8x1024x1 : Shape := ⟨5, ![1, 4, 8, 1024, 1]⟩
abbrev S1x4x64x8x1024 : Shape := ⟨5, ![1, 4, 64, 8, 1024]⟩
abbrev S1x4x64x1024 : Shape := ⟨4, ![1, 4, 64, 1024]⟩

abbrev nBuf : Space → Nat
  | .hbm => 98
  | .vmem => 8
  | .smem => 0
  | _ => 0

abbrev bufTy : (tb : Table) → Fin (tcTables nBuf tb) → BufTy
  | .hbm, ⟨0, _⟩ => ⟨S1x1024x32x64, .fp8e4m3⟩
  | .hbm, ⟨1, _⟩ => ⟨S32, .f32⟩
  | .hbm, ⟨2, _⟩ => ⟨S1x1024x4x64, .fp8e4m3⟩
  | .hbm, ⟨3, _⟩ => ⟨S4, .f32⟩
  | .hbm, ⟨4, _⟩ => ⟨S1x1024x4x64, .fp8e4m3⟩
  | .hbm, ⟨5, _⟩ => ⟨S4, .f32⟩
  | .hbm, ⟨6, _⟩ => ⟨S1x1024x32x64, .bf16⟩
  | .hbm, ⟨7, _⟩ => ⟨S1x32x1024, .f32⟩
  | .hbm, ⟨8, _⟩ => ⟨S1x1024x32x64, .fp8e5m2⟩
  | .hbm, ⟨9, _⟩ => ⟨S1x1024x32, .f32⟩
  | .hbm, ⟨10, _⟩ => ⟨S1x1024x32x64, .bf16⟩
  | .hbm, ⟨11, _⟩ => ⟨S1x1024x4x64, .bf16⟩
  | .hbm, ⟨12, _⟩ => ⟨S1x1024x4x64, .bf16⟩
  | .hbm, ⟨13, _⟩ => ⟨S1x1024x32x64, .bf16⟩
  | .hbm, ⟨14, _⟩ => ⟨S1x1024x4x8x64, .bf16⟩
  | .hbm, ⟨15, _⟩ => ⟨S1x1024x4x8x64, .bf16⟩
  | .hbm, ⟨16, _⟩ => ⟨S1x1024x32x64, .f32⟩
  | .hbm, ⟨17, _⟩ => ⟨S1x1024x32x1, .f32⟩
  | .hbm, ⟨18, _⟩ => ⟨S1x1024x32x64, .f32⟩
  | .hbm, ⟨19, _⟩ => ⟨S1x1024x32x64, .f32⟩
  | .hbm, ⟨20, _⟩ => ⟨S1x1024x32x64, .f32⟩
  | .hbm, ⟨21, _⟩ => ⟨S1x32x1024, .f32⟩
  | .hbm, ⟨22, _⟩ => ⟨S1x4x8x1024, .f32⟩
  | .hbm, ⟨23, _⟩ => ⟨S1x4x8x1024, .f32⟩
  | .hbm, ⟨24, _⟩ => ⟨S1x32x1024, .f32⟩
  | .hbm, ⟨25, _⟩ => ⟨S1x4x8x1024, .f32⟩
  | .hbm, ⟨26, _⟩ => ⟨S4x8, .f32⟩
  | .hbm, ⟨27, _⟩ => ⟨S4x1, .f32⟩
  | .hbm, ⟨28, _⟩ => ⟨S4x8, .f32⟩
  | .hbm, ⟨29, _⟩ => ⟨S4x8, .f32⟩
  | .hbm, ⟨30, _⟩ => ⟨S_, .f32⟩
  | .hbm, ⟨31, _⟩ => ⟨S4x8, .f32⟩
  | .hbm, ⟨32, _⟩ => ⟨S4x8, .f32⟩
  | .hbm, ⟨33, _⟩ => ⟨S1x4x8x1x1, .f32⟩
  | .hbm, ⟨34, _⟩ => ⟨S1x4x1x1x1, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S1x1x4x1x1, .f32⟩
  | .hbm, ⟨39, _⟩ => ⟨S32, .bf16⟩
  | .hbm, ⟨40, _⟩ => ⟨S4x8, .bf16⟩
  | .hbm, ⟨41, _⟩ => ⟨S4x8x1, .bf16⟩
  | .hbm, ⟨42, _⟩ => ⟨S1x1x4x8x1, .bf16⟩
  | .hbm, ⟨43, _⟩ => ⟨S1x1024x4x8x64, .bf16⟩
  | .hbm, ⟨44, _⟩ => ⟨S1x1024x4x8x64, .bf16⟩
  | .hbm, ⟨45, _⟩ => ⟨S1x1024x32, .bf16⟩
  | .hbm, ⟨46, _⟩ => ⟨S1x1024x4x8, .bf16⟩
  | .hbm, ⟨47, _⟩ => ⟨S1x1024x4x8x1, .bf16⟩
  | .hbm, ⟨48, _⟩ => ⟨S1x1024x4x8x64, .bf16⟩
  | .hbm, ⟨49, _⟩ => ⟨S1x1024x4x8x64, .bf16⟩
  | .hbm, ⟨50, _⟩ => ⟨S1024, .i32⟩
  | .hbm, ⟨51, _⟩ => ⟨S1024x1, .i32⟩
  | .hbm, ⟨52, _⟩ => ⟨S1x1024, .i32⟩
  | .hbm, ⟨53, _⟩ => ⟨S1024x1024, .i32⟩
  | .hbm, ⟨54, _⟩ => ⟨S1024x1024, .i32⟩
  | .hbm, ⟨55, _⟩ => ⟨S1024x1024, .i1⟩
  | .hbm, ⟨56, _⟩ => ⟨S1x4x1024x1024x8, .f32⟩
  | .hbm, ⟨57, _⟩ => ⟨S1x4x8x1024x1024, .f32⟩
  | .hbm, ⟨58, _⟩ => ⟨S1x4x8x1024x1024, .f32⟩
  | .hbm, ⟨59, _⟩ => ⟨S1x4x8x1024x1024, .f32⟩
  | .hbm, ⟨60, _⟩ => ⟨S_, .f32⟩
  | .hbm, ⟨61, _⟩ => ⟨S_, .f32⟩
  | .hbm, ⟨62, _⟩ => ⟨S1x4x8x1024x1024, .i1⟩
  | .hbm, ⟨63, _⟩ => ⟨S1x4x8x1024x1024, .f32⟩
  | .hbm, ⟨64, _⟩ => ⟨S1x4x8x1024x1024, .f32⟩
  | .hbm, ⟨65, _⟩ => ⟨S1x4x8x1024x1, .f32⟩
  | .hbm, ⟨66, _⟩ => ⟨S1x4x8x1024x1024, .f32⟩
  | .hbm, ⟨67, _⟩ => ⟨S1x4x8x1024x1024, .f32⟩
  | .hbm, ⟨68, _⟩ => ⟨S1x4x8x1024x1024, .f32⟩
  | .hbm, ⟨69, _⟩ => ⟨S1x4x1024x1024x8, .f32⟩
  | .hbm, ⟨70, _⟩ => ⟨S1x4x8x1024x1024, .f32⟩
  | .hbm, ⟨71, _⟩ => ⟨S1x4x8x1024x1, .f32⟩
  | .hbm, ⟨72, _⟩ => ⟨S1x4x8x1024x1, .f32⟩
  | .hbm, ⟨73, _⟩ => ⟨S1x4x8x1024x1, .f32⟩
  | .hbm, ⟨74, _⟩ => ⟨S1x4x8x1024x1024, .f32⟩
  | .hbm, ⟨75, _⟩ => ⟨S1x4x8x1024x1024, .f32⟩
  | .hbm, ⟨76, _⟩ => ⟨S1x4x8x1024x1, .f32⟩
  | .hbm, ⟨77, _⟩ => ⟨S1x4x8x1024x1024, .f32⟩
  | .hbm, ⟨78, _⟩ => ⟨S1x4x8x1024x1024, .f32⟩
  | .hbm, ⟨79, _⟩ => ⟨S1x4x8x1024x1024, .f32⟩
  | .hbm, ⟨80, _⟩ => ⟨S1x4x8x1024x1024, .bf16⟩
  | .hbm, ⟨81, _⟩ => ⟨S1x4x64x8x1024, .f32⟩
  | .hbm, ⟨82, _⟩ => ⟨S1x1024x4x8x64, .f32⟩
  | .hbm, ⟨83, _⟩ => ⟨S1x1024x4x8x64, .f32⟩
  | .hbm, ⟨84, _⟩ => ⟨S1x1024x4x8x64, .f32⟩
  | .hbm, ⟨85, _⟩ => ⟨S1x4x8x1024x1024, .bf16⟩
  | .hbm, ⟨86, _⟩ => ⟨S1x4x64x1024, .f32⟩
  | .hbm, ⟨87, _⟩ => ⟨S1x1024x4x64, .f32⟩
  | .hbm, ⟨88, _⟩ => ⟨S_, .f32⟩
  | .hbm, ⟨89, _⟩ => ⟨S1x1024x4x64, .f32⟩
  | .hbm, ⟨90, _⟩ => ⟨S1x1024x4x64, .f32⟩
  | .hbm, ⟨91, _⟩ => ⟨S1x4x8x1024x1024, .bf16⟩
  | .hbm, ⟨92, _⟩ => ⟨S1x4x64x1024, .f32⟩
  | .hbm, ⟨93, _⟩ => ⟨S1x1024x4x64, .f32⟩
  | .hbm, ⟨94, _⟩ => ⟨S1x1024x32x64, .f32⟩
  | .hbm, ⟨95, _⟩ => ⟨S1x1024x32x64, .bf16⟩
  | .hbm, ⟨96, _⟩ => ⟨S1x1024x4x64, .bf16⟩
  | .hbm, ⟨97, _⟩ => ⟨S1x1024x4x64, .bf16⟩
  | .local _ .vmem, ⟨0, _⟩ => ⟨S1x1024x32x64, .fp8e4m3⟩
  | .local _ .vmem, ⟨1, _⟩ => ⟨S1x1024x4x64, .fp8e4m3⟩
  | .local _ .vmem, ⟨2, _⟩ => ⟨S1x1024x4x64, .fp8e4m3⟩
  | .local _ .vmem, ⟨3, _⟩ => ⟨S1x1024x32x64, .fp8e5m2⟩
  | .local _ .vmem, ⟨4, _⟩ => ⟨S1x1024x32x64, .bf16⟩
  | .local _ .vmem, ⟨5, _⟩ => ⟨S1x1024x4x64, .bf16⟩
  | .local _ .vmem, ⟨6, _⟩ => ⟨S1x1024x4x64, .bf16⟩
  | .local _ .vmem, ⟨7, _⟩ => ⟨S1x1024x32x64, .bf16⟩
  | _, _ => ⟨S1x1024x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_1 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_2 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x1024x32x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x4x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x4x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x32x64 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024x32x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x4x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024x4x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024x32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Spec.lean ====
module

public import Idealize.ShloMosaic.Lib.Pointwise
public import Idealize.ShloMosaic.Lib.Affine

@[expose] public section

set_option maxRecDepth 16384

noncomputable section

namespace Cert.Bwd
open Idealize.ShloMosaic

/-- What one query head's pass reads: the scales, the widened operands by (feature, position), the three key and value copies, the
    row statistics, and the two constants (one eighth and the base-two logarithm of e). -/
@[ext] structure Head where
  (qs ks vs c8 L : EReal)
  (q o dO kw : Fin 64 → Fin 1024 → EReal)
  (kc vw : Fin 1024 → Fin 64 → EReal)
  (lse dos : Fin 1024 → EReal)

namespace Head
variable (H : Head)

/-- The unmasked probability of key `k` for query `s`, as a power of two. -/
def p (k s : Fin 1024) : EReal :=
  Ideal.exp2 ((∑ d, H.kc k d * H.q d s) * (H.qs * H.ks * H.c8 * H.L) - H.lse s * H.L)

/-- The factor beside the probability in the score's gradient: the product with the incoming gradient less the row's correction. -/
def t (k s : Fin 1024) : EReal :=
  (∑ d, H.vw k d * H.dO d s) * (H.dos s * H.vs) - (∑ d, H.dO d s * H.o d s) * H.dos s

/-- The head's query gradient at feature `d`, position `s`. -/
def DQ (d : Fin 64) (s : Fin 1024) : EReal :=
  (∑ k, if k ≤ s then H.kw d k * (H.p k s * H.t k s) else 0) * (H.ks * H.c8)

/-- What the head adds to the key gradient at feature `d`, position `k` (before the last scale). -/
def DK (d : Fin 64) (k : Fin 1024) : EReal :=
  ∑ s, if k ≤ s then H.q d s * H.qs * (H.p k s * H.t k s) else 0

/-- What the head adds to the value gradient at feature `d`, position `k`. -/
def DV (d : Fin 64) (k : Fin 1024) : EReal :=
  ∑ s, if k ≤ s then H.dO d s * H.dos s * H.p k s else 0

end Head

/-! ## Sums over 1024 positions, tile by tile -/

/-- A sum over 1024 positions is the sum of its four tiles of 256. -/
theorem sum_tiles (f : Fin 1024 → EReal) : ∑ k, f k
    = ∑ c : Fin 256, f ⟨c, by omega⟩ + ∑ c : Fin 256, f ⟨256 + c, by omega⟩ + ∑ c : Fin 256, f ⟨512 + c, by omega⟩
      + ∑ c : Fin 256, f ⟨768 + c, by omega⟩ := by
  rw [Fin.sum_univ_tiles 4 256 rfl f, Fin.sum_univ_four]
  simp

section
variable (f : Fin 1024 → EReal) {x : ℕ} (hx : x < 256)
include hx

/-- The keys up to a query of the first tile. -/
theorem upto0 : (∑ k, if k ≤ (⟨x, by omega⟩ : Fin 1024) then f k else 0) = ∑ c : Fin 256, if (c : ℕ) ≤ x then f ⟨c, by omega⟩ else 0 := by
  rw [sum_tiles]; simp (disch := omega) only [Fin.le_def, if_pos, if_neg, Finset.sum_const_zero, add_zero, zero_add, Nat.add_le_add_iff_left]

/-- The keys up to a query of the second tile. -/
theorem upto1 : (∑ k, if k ≤ (⟨256 + x, by omega⟩ : Fin 1024) then f k else 0) = ∑ c : Fin 256, f ⟨c, by omega⟩
    + ∑ c : Fin 256, if (c : ℕ) ≤ x then f ⟨256 + c, by omega⟩ else 0 := by
  rw [sum_tiles]; simp (disch := omega) only [Fin.le_def, if_pos, if_neg, Finset.sum_const_zero, add_zero, zero_add, Nat.add_le_add_iff_left]

/-- The keys up to a query of the third tile. -/
theorem upto2 : (∑ k, if k ≤ (⟨512 + x, by omega⟩ : Fin 1024) then f k else 0) = ∑ c : Fin 256, f ⟨c, by omega⟩
    + ∑ c : Fin 256, f ⟨256 + c, by omega⟩ + ∑ c : Fin 256, if (c : ℕ) ≤ x then f ⟨512 + c, by omega⟩ else 0 := by
  rw [sum_tiles]; simp (disch := omega) only [Fin.le_def, if_pos, if_neg, Finset.sum_const_zero, add_zero, zero_add, Nat.add_le_add_iff_left]

/-- The keys up to a query of the last tile. -/
theorem upto3 : (∑ k, if k ≤ (⟨768 + x, by omega⟩ : Fin 1024) then f k else 0) = ∑ c : Fin 256, f ⟨c, by omega⟩
    + ∑ c : Fin 256, f ⟨256 + c, by omega⟩ + ∑ c : Fin 256, f ⟨512 + c, by omega⟩ + ∑ c : Fin 256, if (c : ℕ) ≤ x then f ⟨768 + c, by omega⟩ else 0 := by
  rw [sum_tiles]; simp (disch := omega) only [Fin.le_def, if_pos, if_neg, Finset.sum_const_zero, add_zero, zero_add, Nat.add_le_add_iff_left]

/-- The queries from a key of the first tile on. -/
theorem from0 : (∑ k, if (⟨x, by omega⟩ : Fin 1024) ≤ k then f k else 0) = (∑ c : Fin 256, if x ≤ (c : ℕ) then f ⟨c, by omega⟩ else 0)
    + ∑ c : Fin 256, f ⟨256 + c, by omega⟩ + ∑ c : Fin 256, f ⟨512 + c, by omega⟩ + ∑ c : Fin 256, f ⟨768 + c, by omega⟩ := by
  rw [sum_tiles]; simp (disch := omega) only [Fin.le_def, if_pos, if_neg, Finset.sum_const_zero, add_zero, zero_add, Nat.add_le_add_iff_left]

/-- The queries from a key of the second tile on. -/
theorem from1 : (∑ k, if (⟨256 + x, by omega⟩ : Fin 1024) ≤ k then f k else 0) = (∑ c : Fin 256, if x ≤ (c : ℕ) then f ⟨256 + c, by omega⟩ else 0)
    + ∑ c : Fin 256, f ⟨512 + c, by omega⟩ + ∑ c : Fin 256, f ⟨768 + c, by omega⟩ := by
  rw [sum_tiles]; simp (disch := omega) only [Fin.le_def, if_pos, if_neg, Finset.sum_const_zero, add_zero, zero_add, Nat.add_le_add_iff_left]

/-- The queries from a key of the third tile on. -/
theorem from2 : (∑ k, if (⟨512 + x, by omega⟩ : Fin 1024) ≤ k then f k else 0) = (∑ c : Fin 256, if x ≤ (c : ℕ) then f ⟨512 + c, by omega⟩ else 0)
    + ∑ c : Fin 256, f ⟨768 + c, by omega⟩ := by
  rw [sum_tiles]; simp (disch := omega) only [Fin.le_def, if_pos, if_neg, Finset.sum_const_zero, add_zero, zero_add, Nat.add_le_add_iff_left]

/-- The queries from a key of the last tile on. -/
theorem from3 : (∑ k, if (⟨768 + x, by omega⟩ : Fin 1024) ≤ k then f k else 0) = ∑ c : Fin 256, if x ≤ (c : ℕ) then f ⟨768 + c, by omega⟩ else 0 := by
  rw [sum_tiles]; simp (disch := omega) only [Fin.le_def, if_pos, if_neg, Finset.sum_const_zero, add_zero, zero_add, Nat.add_le_add_iff_left]
end

/-- The kernel's comparison of two positions of a tile, as the order on them. -/
theorem select_ge {a b : ℕ} (ha : a < 256) (hb : b < 256) (u v : EReal) :
    Scalar.select (IntOp.cmpi CmpIPredicate.sge (BitVec.ofNat 32 a) (BitVec.ofNat 32 b)) u v = if b ≤ a then u else v := by
  have tn : ∀ n < 256, (BitVec.ofNat 32 n).toInt = n := fun n hn => by
    rw [BitVec.toInt_eq_toNat_of_lt (by rw [BitVec.toNat_ofNat]; omega), BitVec.toNat_ofNat]; omega
  have e : (IntOp.cmpi CmpIPredicate.sge (BitVec.ofNat 32 a) (BitVec.ofNat 32 b) = 1#1) ↔ b ≤ a := by
    rw [IntOp.cmpi_sge, tn _ ha, tn _ hb]; omega
  unfold Scalar.select
  exact if_congr e rfl rfl

/-! ## The gradients, tile by tile -/

namespace Head
variable (H : Head)

/-- One key's share of the query gradient. -/
def dq (d : Fin 64) (k s : Fin 1024) : EReal := H.kw d k * (H.p k s * H.t k s)
/-- One query's share of the key gradient. -/
def dk (d : Fin 64) (k s : Fin 1024) : EReal := H.q d s * H.qs * (H.p k s * H.t k s)
/-- One query's share of the value gradient. -/
def dv (d : Fin 64) (k s : Fin 1024) : EReal := H.dO d s * H.dos s * H.p k s

section
variable {d d' : Fin 64} {k : Fin 1024} {x : ℕ} (hx : x < 256) (hd : d.val = d'.val)
include hd

/-- The query gradient at a position of the first tile. -/
theorem DQ_0 (hk : k.val = x) : H.DQ d k = ((∑ c : Fin 256, if (c : ℕ) ≤ x then H.dq d' ⟨c, by omega⟩ ⟨x, by omega⟩ else 0)) * (H.ks * H.c8) := by
  obtain rfl : d = d' := Fin.ext hd
  refine (congrArg (H.DQ d) (Fin.ext hk : k = ⟨x, by omega⟩)).trans ?_
  exact congrArg (· * (H.ks * H.c8)) (upto0 (fun k => H.dq d k ⟨x, by omega⟩) hx)

/-- The query gradient at a position of the second tile. -/
theorem DQ_1 (hk : k.val = 256 + x) : H.DQ d k = ((∑ c : Fin 256, H.dq d' ⟨c, by omega⟩ ⟨256 + x, by omega⟩) + (∑ c : Fin 256, if (c : ℕ) ≤ x then H.dq d' ⟨256 + c, by omega⟩ ⟨256 + x, by omega⟩ else 0)) * (H.ks * H.c8) := by
  obtain rfl : d = d' := Fin.ext hd
  refine (congrArg (H.DQ d) (Fin.ext hk : k = ⟨256 + x, by omega⟩)).trans ?_
  exact congrArg (· * (H.ks * H.c8)) (upto1 (fun k => H.dq d k ⟨256 + x, by omega⟩) hx)

/-- The query gradient at a position of the third tile. -/
theorem DQ_2 (hk : k.val = 512 + x) : H.DQ d k = ((∑ c : Fin 256, H.dq d' ⟨c, by omega⟩ ⟨512 + x, by omega⟩) + (∑ c : Fin 256, H.dq d' ⟨256 + c, by omega⟩ ⟨512 + x, by omega⟩) + (∑ c : Fin 256, if (c : ℕ) ≤ x then H.dq d' ⟨512 + c, by omega⟩ ⟨512 + x, by omega⟩ else 0)) * (H.ks * H.c8) := by
  obtain rfl : d = d' := Fin.ext hd
  refine (congrArg (H.DQ d) (Fin.ext hk : k = ⟨512 + x, by omega⟩)).trans ?_
  exact congrArg (· * (H.ks * H.c8)) (upto2 (fun k => H.dq d k ⟨512 + x, by omega⟩) hx)

/-- The query gradient at a position of the last tile. -/
theorem DQ_3 (hk : k.val = 768 + x) : H.DQ d k = ((∑ c : Fin 256, H.dq d' ⟨c, by omega⟩ ⟨768 + x, by omega⟩) + (∑ c : Fin 256, H.dq d' ⟨256 + c, by omega⟩ ⟨768 + x, by omega⟩) + (∑ c : Fin 256, H.dq d' ⟨512 + c, by omega⟩ ⟨768 + x, by omega⟩) + (∑ c : Fin 256, if (c : ℕ) ≤ x then H.dq d' ⟨768 + c, by omega⟩ ⟨768 + x, by omega⟩ else 0)) * (H.ks * H.c8) := by
  obtain rfl : d = d' := Fin.ext hd
  refine (congrArg (H.DQ d) (Fin.ext hk : k = ⟨768 + x, by omega⟩)).trans ?_
  exact congrArg (· * (H.ks * H.c8)) (upto3 (fun k => H.dq d k ⟨768 + x, by omega⟩) hx)

end

section
variable {d d' : Fin 64} {k : Fin 1024} {x : ℕ} (hx : x < 256) (hd : d.val = d'.val)
include hd

/-- The key gradient at a position of the first tile. -/
theorem DK_0 (hk : k.val = x) : H.DK d k = (∑ c : Fin 256, if x ≤ (c : ℕ) then H.dk d' ⟨x, by omega⟩ ⟨c, by omega⟩ else 0) + (∑ c : Fin 256, H.dk d' ⟨x, by omega⟩ ⟨256 + c, by omega⟩) + (∑ c : Fin 256, H.dk d' ⟨x, by omega⟩ ⟨512 + c, by omega⟩) + (∑ c : Fin 256, H.dk d' ⟨x, by omega⟩ ⟨768 + c, by omega⟩) := by
  obtain rfl : d = d' := Fin.ext hd
  refine (congrArg (H.DK d) (Fin.ext hk : k = ⟨x, by omega⟩)).trans ?_
  exact from0 (fun s => H.dk d ⟨x, by omega⟩ s) hx

/-- The key gradient at a position of the second tile. -/
theorem DK_1 (hk : k.val = 256 + x) : H.DK d k = (∑ c : Fin 256, if x ≤ (c : ℕ) then H.dk d' ⟨256 + x, by omega⟩ ⟨256 + c, by omega⟩ else 0) + (∑ c : Fin 256, H.dk d' ⟨256 + x, by omega⟩ ⟨512 + c, by omega⟩) + (∑ c : Fin 256, H.dk d' ⟨256 + x, by omega⟩ ⟨768 + c, by omega⟩) := by
  obtain rfl : d = d' := Fin.ext hd
  refine (congrArg (H.DK d) (Fin.ext hk : k = ⟨256 + x, by omega⟩)).trans ?_
  exact from1 (fun s => H.dk d ⟨256 + x, by omega⟩ s) hx

/-- The key gradient at a position of the third tile. -/
theorem DK_2 (hk : k.val = 512 + x) : H.DK d k = (∑ c : Fin 256, if x ≤ (c : ℕ) then H.dk d' ⟨512 + x, by omega⟩ ⟨512 + c, by omega⟩ else 0) + (∑ c : Fin 256, H.dk d' ⟨512 + x, by omega⟩ ⟨768 + c, by omega⟩) := by
  obtain rfl : d = d' := Fin.ext hd
  refine (congrArg (H.DK d) (Fin.ext hk : k = ⟨512 + x, by omega⟩)).trans ?_
  exact from2 (fun s => H.dk d ⟨512 + x, by omega⟩ s) hx

/-- The key gradient at a position of the last tile. -/
theorem DK_3 (hk : k.val = 768 + x) : H.DK d k = (∑ c : Fin 256, if x ≤ (c : ℕ) then H.dk d' ⟨768 + x, by omega⟩ ⟨768 + c, by omega⟩ else 0) := by
  obtain rfl : d = d' := Fin.ext hd
  refine (congrArg (H.DK d) (Fin.ext hk : k = ⟨768 + x, by omega⟩)).trans ?_
  exact from3 (fun s => H.dk d ⟨768 + x, by omega⟩ s) hx

end

section
variable {d d' : Fin 64} {k : Fin 1024} {x : ℕ} (hx : x < 256) (hd : d.val = d'.val)
include hd

/-- The value gradient at a position of the first tile. -/
theorem DV_0 (hk : k.val = x) : H.DV d k = (∑ c : Fin 256, if x ≤ (c : ℕ) then H.dv d' ⟨x, by omega⟩ ⟨c, by omega⟩ else 0) + (∑ c : Fin 256, H.dv d' ⟨x, by omega⟩ ⟨256 + c, by omega⟩) + (∑ c : Fin 256, H.dv d' ⟨x, by omega⟩ ⟨512 + c, by omega⟩) + (∑ c : Fin 256, H.dv d' ⟨x, by omega⟩ ⟨768 + c, by omega⟩) := by
  obtain rfl : d = d' := Fin.ext hd
  refine (congrArg (H.DV d) (Fin.ext hk : k = ⟨x, by omega⟩)).trans ?_
  exact from0 (fun s => H.dv d ⟨x, by omega⟩ s) hx

/-- The value gradient at a position of the second tile. -/
theorem DV_1 (hk : k.val = 256 + x) : H.DV d k = (∑ c : Fin 256, if x ≤ (c : ℕ) then H.dv d' ⟨256 + x, by omega⟩ ⟨256 + c, by omega⟩ else 0) + (∑ c : Fin 256, H.dv d' ⟨256 + x, by omega⟩ ⟨512 + c, by omega⟩) + (∑ c : Fin 256, H.dv d' ⟨256 + x, by omega⟩ ⟨768 + c, by omega⟩) := by
  obtain rfl : d = d' := Fin.ext hd
  refine (congrArg (H.DV d) (Fin.ext hk : k = ⟨256 + x, by omega⟩)).trans ?_
  exact from1 (fun s => H.dv d ⟨256 + x, by omega⟩ s) hx

/-- The value gradient at a position of the third tile. -/
theorem DV_2 (hk : k.val = 512 + x) : H.DV d k = (∑ c : Fin 256, if x ≤ (c : ℕ) then H.dv d' ⟨512 + x, by omega⟩ ⟨512 + c, by omega⟩ else 0) + (∑ c : Fin 256, H.dv d' ⟨512 + x, by omega⟩ ⟨768 + c, by omega⟩) := by
  obtain rfl : d = d' := Fin.ext hd
  refine (congrArg (H.DV d) (Fin.ext hk : k = ⟨512 + x, by omega⟩)).trans ?_
  exact from2 (fun s => H.dv d ⟨512 + x, by omega⟩ s) hx

/-- The value gradient at a position of the last tile. -/
theorem DV_3 (hk : k.val = 768 + x) : H.DV d k = (∑ c : Fin 256, if x ≤ (c : ℕ) then H.dv d' ⟨768 + x, by omega⟩ ⟨768 + c, by omega⟩ else 0) := by
  obtain rfl : d = d' := Fin.ext hd
  refine (congrArg (H.DV d) (Fin.ext hk : k = ⟨768 + x, by omega⟩)).trans ?_
  exact from3 (fun s => H.dv d ⟨768 + x, by omega⟩ s) hx

end

end Head

/-! ## The heads, read out of the arguments -/

/-- The group a head belongs to: eight heads share one key and value head. -/
def grp (h : Fin 32) : Fin 4 := ⟨h.val / 8, by omega⟩

/-- Head number `j` of group `g`. -/
def mem (g : Fin 4) (j : Fin 8) : Fin 32 := ⟨8 * g.val + j.val, by omega⟩

/-- Query head `h` as the argument arrays give it: queries, keys, values and their scales, the forward result, the row statistic, and the
    incoming gradient with its row scales. -/
def argHead (q : (⟨4, ![1, 1024, 32, 64]⟩ : Shape).Idx → EReal) (sq : (⟨1, ![32]⟩ : Shape).Idx → EReal)
    (k : (⟨4, ![1, 1024, 4, 64]⟩ : Shape).Idx → EReal) (sk : (⟨1, ![4]⟩ : Shape).Idx → EReal)
    (v : (⟨4, ![1, 1024, 4, 64]⟩ : Shape).Idx → EReal) (sv : (⟨1, ![4]⟩ : Shape).Idx → EReal)
    (o : (⟨4, ![1, 1024, 32, 64]⟩ : Shape).Idx → EReal) (lse : (⟨3, ![1, 32, 1024]⟩ : Shape).Idx → EReal)
    (dO : (⟨4, ![1, 1024, 32, 64]⟩ : Shape).Idx → EReal) (sdo : (⟨3, ![1, 1024, 32]⟩ : Shape).Idx → EReal)
    (c8 L : EReal) (h : Fin 32) : Head where
  qs := sq (ix1 h)
  ks := sk (ix1 (grp h))
  vs := sv (ix1 (grp h))
  c8 := c8
  L := L
  q d s := q (ix4 0 s h d)
  o d s := o (ix4 0 s h d)
  dO d s := dO (ix4 0 s h d)
  kw d s := k (ix4 0 s (grp h) d)
  kc s d := k (ix4 0 s (grp h) d)
  vw s d := v (ix4 0 s (grp h) d)
  lse s := lse (ix3 0 h s)
  dos s := sdo (ix3 0 s h)

end Cert.Bwd
end
-- ==== Proof.Point.lean ====
module

public import proofs.«01_k».proof.Proof.Gen.KernelIdeal.Frame
public import proofs.«01_k».proof.Proof.Spec
public import Idealize.ShloMosaic.Lib.Pipeline.ValueKit
public import Idealize.ShloMosaic.Lib.Pipeline.ReadBack

@[expose] public section

set_option maxRecDepth 16384
set_option maxHeartbeats 4000000

noncomputable section

namespace Cert.KernelIdeal.Gen
open Idealize.ShloMosaic Idealize.ShloMosaic.TcCoe Idealize.ShloMosaic.Tactic
open Cert.Bwd

/-- A row of a block starts at its first column. -/
theorem off3_1 (i : grid0.Coords) : k0_off3 i 1 = 0 := rfl

/-- An index of a 64 by 1024 block is its two coordinates. -/
theorem ix2_eq (y : S64x1024.Idx) {a : Fin 64} {b : Fin 1024} (h0 : (y 0).val = a.val) (h1 : (y 1).val = b.val) :
    (ix2 a b : S64x1024.Idx) = y := by
  funext d
  match d with
  | ⟨0, _⟩ => exact Fin.ext h0.symm
  | ⟨1, _⟩ => exact Fin.ext h1.symm

/-- Four stores that tile a buffer hide every earlier store. -/
theorem canon_drop4 {s : Shape} {e : EltTy} (p0 p1 p2 p3 : View.Piece (Elt Ideal) s e) (L' : List (View.Piece (Elt Ideal) s e)) (sz : Fin s.rank → ℕ)
    (h : View.Piece.tiled [p0, p1, p2, p3] sz = true) (y : s.Idx) : View.canon (p0 :: p1 :: p2 :: p3 :: L') y = View.canon [p0, p1, p2, p3] y := by
  obtain ⟨p, hp, hy⟩ := View.cover_of_tiled [p0, p1, p2, p3] sz h y
  by_cases h0 : y ∈ p0.1.set
  · obtain ⟨x, rfl⟩ := p0.1.exists_idx_of_mem h0
    exact (View.canon_cons_emb p0.1 p0.2 _ x).trans (View.canon_cons_emb p0.1 p0.2 _ x).symm
  rw [View.canon_cons_of_not_mem _ _ h0, View.canon_cons_of_not_mem _ _ h0]
  by_cases h1 : y ∈ p1.1.set
  · obtain ⟨x, rfl⟩ := p1.1.exists_idx_of_mem h1
    exact (View.canon_cons_emb p1.1 p1.2 _ x).trans (View.canon_cons_emb p1.1 p1.2 _ x).symm
  rw [View.canon_cons_of_not_mem _ _ h1, View.canon_cons_of_not_mem _ _ h1]
  by_cases h2 : y ∈ p2.1.set
  · obtain ⟨x, rfl⟩ := p2.1.exists_idx_of_mem h2
    exact (View.canon_cons_emb p2.1 p2.2 _ x).trans (View.canon_cons_emb p2.1 p2.2 _ x).symm
  rw [View.canon_cons_of_not_mem _ _ h2, View.canon_cons_of_not_mem _ _ h2]
  by_cases h3 : y ∈ p3.1.set
  · obtain ⟨x, rfl⟩ := p3.1.exists_idx_of_mem h3
    exact (View.canon_cons_emb p3.1 p3.2 _ x).trans (View.canon_cons_emb p3.1 p3.2 _ x).symm
  simp only [List.mem_cons, List.not_mem_nil, or_false] at hp
  rcases hp with rfl | rfl | rfl | rfl <;> contradiction

/-- The key gradient's last scale, at an index. -/
theorem pay1_apply (v : Vec Ideal S64x1024 .f32) (y : S1x64x1024.Idx) :
    k0_pay1 v y = v (ix2 (y 1) (y 2)) * Ideal.ofBits FTy.f32 1040187392#32 := by
  open_payloads; pointwise

/-- The value gradient's block, at an index. -/
theorem pay2_apply (v : Vec Ideal S64x1024 .f32) (y : S1x64x1024.Idx) : k0_pay2 v y = v (ix2 (y 1) (y 2)) := by
  open_payloads; pointwise

/-- The head a grid point works on, read out of its blocks; the three copies of the key and value blocks are given by their entries. -/
def hd (i : grid0.Coords) (x0 : Vec Ideal S32 .f32) (x1 : Vec Ideal S4 .f32) (x2 : Vec Ideal S4 .f32) (x3 : Vec Ideal S1x64x1024 .fp8e4m3) (x4 : Vec Ideal S1x64x1024 .fp8e4m3) (x5 : Vec Ideal S1x64x1024 .fp8e4m3) (x6 : Vec Ideal S1x64x1024 .bf16) (x7 : Vec Ideal S8x1024 .f32) (x8 : Vec Ideal S1x64x1024 .fp8e5m2) (x9 : Vec Ideal S8x1024 .f32)
    (kc vw : Fin 1024 → Fin 64 → EReal) (kw : Fin 64 → Fin 1024 → EReal) : Head where
  qs := x0 (ix1 ⟨k0_off1 i 0, Nat.lt_of_succ_le (k0_off1_inb i 0)⟩)
  ks := x1 (ix1 ⟨k0_off2 i 0, Nat.lt_of_succ_le (k0_off2_inb i 0)⟩)
  vs := x2 (ix1 ⟨k0_off2 i 0, Nat.lt_of_succ_le (k0_off2_inb i 0)⟩)
  c8 := Ideal.ofBits FTy.f32 1040187392#32
  L := Named.named (F := Ideal) (φ := .f32) κ "log2e" 1069066811#32
  q d s := x3 (ix3 0 d s)
  o d s := x6 (ix3 0 d s)
  dO d s := x8 (ix3 0 d s)
  kw := kw
  kc := kc
  vw := vw
  lse s := x7 (ix2 ⟨k0_off3 i 0, Nat.lt_of_succ_le (k0_off3_inb i 0)⟩ s)
  dos s := x9 (ix2 ⟨k0_off3 i 0, Nat.lt_of_succ_le (k0_off3_inb i 0)⟩ s)

/-- The head of a point that finds the copies of the key and value blocks in scratch. -/
abbrev hdS (i : grid0.Coords) (x0 : Vec Ideal S32 .f32) (x1 : Vec Ideal S4 .f32) (x2 : Vec Ideal S4 .f32) (x3 : Vec Ideal S1x64x1024 .fp8e4m3) (x4 : Vec Ideal S1x64x1024 .fp8e4m3) (x5 : Vec Ideal S1x64x1024 .fp8e4m3) (x6 : Vec Ideal S1x64x1024 .bf16) (x7 : Vec Ideal S8x1024 .f32) (x8 : Vec Ideal S1x64x1024 .fp8e5m2) (x9 : Vec Ideal S8x1024 .f32) (xs0 : Vec Ideal S1024x64 .fp8e4m3) (xs1 : Vec Ideal S1024x64 .bf16) (xs2 : Vec Ideal S64x1024 .bf16) : Head :=
  hd i x0 x1 x2 x3 x4 x5 x6 x7 x8 x9 (fun k d => xs0 (ix2 k d)) (fun k d => xs1 (ix2 k d)) (fun d k => xs2 (ix2 d k))

/-- The head of a point that makes the copies itself, from the key and value blocks. -/
abbrev hdA (i : grid0.Coords) (x0 : Vec Ideal S32 .f32) (x1 : Vec Ideal S4 .f32) (x2 : Vec Ideal S4 .f32) (x3 : Vec Ideal S1x64x1024 .fp8e4m3) (x4 : Vec Ideal S1x64x1024 .fp8e4m3) (x5 : Vec Ideal S1x64x1024 .fp8e4m3) (x6 : Vec Ideal S1x64x1024 .bf16) (x7 : Vec Ideal S8x1024 .f32) (x8 : Vec Ideal S1x64x1024 .fp8e5m2) (x9 : Vec Ideal S8x1024 .f32) : Head :=
  hd i x0 x1 x2 x3 x4 x5 x6 x7 x8 x9 (fun k d => x4 (ix3 0 d k)) (fun k d => x5 (ix3 0 d k)) (fun d k => x4 (ix3 0 d k))
end Cert.KernelIdeal.Gen
end
-- ==== Proof.Reads.lean ====
module

public import proofs.«01_k».proof.Proof.Point

@[expose] public section

set_option maxRecDepth 16384
set_option maxHeartbeats 4000000

noncomputable section

namespace Cert.KernelIdeal.Gen
open Idealize.ShloMosaic Idealize.ShloMosaic.TcCoe Idealize.ShloMosaic.Tactic
open Cert.Bwd

variable (m : (ℓ : Loc nD τ sig) → Buf (Elt Ideal) ℓ) (c : Dev nD)

/-- The entry of the query scales a point reads is its own number. -/
theorem off1_eq : ∀ t : Fin cfg0.N, k0_off1 (grid0.coords t) 0 = t.val := (by decide +kernel : ∀ t : Fin grid0.N, _)
/-- The entry of the key and value scales a point reads is its group. -/
theorem off2_eq : ∀ t : Fin cfg0.N, k0_off2 (grid0.coords t) 0 = t.val / 8 := (by decide +kernel : ∀ t : Fin grid0.N, _)
/-- The row of a group's block a point reads is its place in the group. -/
theorem off3_eq : ∀ t : Fin cfg0.N, k0_off3 (grid0.coords t) 0 = t.val % 8 := (by decide +kernel : ∀ t : Fin grid0.N, _)

/-- Where window 0's block lies, in blocks. -/
theorem idx0 : ∀ t : Fin cfg0.N, win0_0.index t = ![0] := (by decide +kernel : ∀ t : Fin grid0.N, _)
/-- Where window 1's block lies, in blocks. -/
theorem idx1 : ∀ t : Fin cfg0.N, win0_1.index t = ![0] := (by decide +kernel : ∀ t : Fin grid0.N, _)
/-- Where window 2's block lies, in blocks. -/
theorem idx2 : ∀ t : Fin cfg0.N, win0_2.index t = ![0] := (by decide +kernel : ∀ t : Fin grid0.N, _)
/-- Where window 3's block lies, in blocks. -/
theorem idx3 : ∀ t : Fin cfg0.N, win0_3.index t = ![t.val, 0, 0] := (by decide +kernel : ∀ t : Fin grid0.N, _)
/-- Where window 4's block lies, in blocks. -/
theorem idx4 : ∀ t : Fin cfg0.N, win0_4.index t = ![t.val / 8, 0, 0] := (by decide +kernel : ∀ t : Fin grid0.N, _)
/-- Where window 5's block lies, in blocks. -/
theorem idx5 : ∀ t : Fin cfg0.N, win0_5.index t = ![t.val / 8, 0, 0] := (by decide +kernel : ∀ t : Fin grid0.N, _)
/-- Where window 6's block lies, in blocks. -/
theorem idx6 : ∀ t : Fin cfg0.N, win0_6.index t = ![t.val, 0, 0] := (by decide +kernel : ∀ t : Fin grid0.N, _)
/-- Where window 7's block lies, in blocks. -/
theorem idx7 : ∀ t : Fin cfg0.N, win0_7.index t = ![t.val / 8, 0] := (by decide +kernel : ∀ t : Fin grid0.N, _)
/-- Where window 8's block lies, in blocks. -/
theorem idx8 : ∀ t : Fin cfg0.N, win0_8.index t = ![t.val, 0, 0] := (by decide +kernel : ∀ t : Fin grid0.N, _)
/-- Where window 9's block lies, in blocks. -/
theorem idx9 : ∀ t : Fin cfg0.N, win0_9.index t = ![t.val / 8, 0] := (by decide +kernel : ∀ t : Fin grid0.N, _)

/-- There are 32 grid points. -/
theorem hN : cfg0.N = 32 := N_0

/-- The head a grid point works on, from the arguments. -/
abbrev AH (h : Fin 32) : Head :=
  argHead (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (Ideal.ofBits FTy.f32 1040187392#32)
    (Named.named (F := Ideal) (φ := .f32) κ "log2e" 1069066811#32) h

/-- Window 0 holds a whole scale vector, read at the point's own entry. -/
theorem read0 (t : Fin cfg0.N) (h : k0_off1 (grid0.coords t) 0 < 32) :
    (iblk m c 0 t : Vec Ideal S32 .f32) (ix1 ⟨k0_off1 (grid0.coords t) 0, h⟩) = (AH m c (t.cast hN)).qs := by
  unfold AH argHead
  dsimp only
  have e := off1_eq t
  blk_ext! [iblk, V, idx0 t, e, grp]
  all_goals simp [grp]

/-- Window 1 holds a whole scale vector, read at the point's own entry. -/
theorem read1 (t : Fin cfg0.N) (h : k0_off2 (grid0.coords t) 0 < 4) :
    (iblk m c 1 t : Vec Ideal S4 .f32) (ix1 ⟨k0_off2 (grid0.coords t) 0, h⟩) = (AH m c (t.cast hN)).ks := by
  unfold AH argHead
  dsimp only
  have e := off2_eq t
  blk_ext! [iblk, V, idx1 t, e, grp]
  all_goals simp [grp]

/-- Window 2 holds a whole scale vector, read at the point's own entry. -/
theorem read2 (t : Fin cfg0.N) (h : k0_off2 (grid0.coords t) 0 < 4) :
    (iblk m c 2 t : Vec Ideal S4 .f32) (ix1 ⟨k0_off2 (grid0.coords t) 0, h⟩) = (AH m c (t.cast hN)).vs := by
  unfold AH argHead
  dsimp only
  have e := off2_eq t
  blk_ext! [iblk, V, idx2 t, e, grp]
  all_goals simp [grp]

/-- Window 3's block, entry by entry, from its argument. -/
theorem read3 (t : Fin cfg0.N) (d : Fin 64) (k : Fin 1024) :
    (iblk m c 3 t : Vec Ideal S1x64x1024 .fp8e4m3) (ix3 0 d k) = (AH m c (t.cast hN)).q d k := by
  unfold AH argHead
  dsimp only
  show StableHlo.after hostOps0 (fun b => m (c, b)) (Proc.devRef .tc main_v1) (((cfg0.win 3).blk t).view.emb (ix3 0 d k)) = _
  entry_read
  pointwise
  blk_ext [idx3 t, grp]
  all_goals simp [grp]

/-- Window 4's block, entry by entry, from its argument. -/
theorem read4 (t : Fin cfg0.N) (d : Fin 64) (k : Fin 1024) :
    (iblk m c 4 t : Vec Ideal S1x64x1024 .fp8e4m3) (ix3 0 d k) = (AH m c (t.cast hN)).kc k d := by
  unfold AH argHead
  dsimp only
  show StableHlo.after hostOps0 (fun b => m (c, b)) (Proc.devRef .tc main_v3) (((cfg0.win 4).blk t).view.emb (ix3 0 d k)) = _
  entry_read
  pointwise
  blk_ext [idx4 t, grp]
  all_goals simp [grp]

/-- Window 5's block, entry by entry, from its argument. -/
theorem read5 (t : Fin cfg0.N) (d : Fin 64) (k : Fin 1024) :
    (iblk m c 5 t : Vec Ideal S1x64x1024 .fp8e4m3) (ix3 0 d k) = (AH m c (t.cast hN)).vw k d := by
  unfold AH argHead
  dsimp only
  show StableHlo.after hostOps0 (fun b => m (c, b)) (Proc.devRef .tc main_v5) (((cfg0.win 5).blk t).view.emb (ix3 0 d k)) = _
  entry_read
  pointwise
  blk_ext [idx5 t, grp]
  all_goals simp [grp]

/-- Window 6's block, entry by entry, from its argument. -/
theorem read6 (t : Fin cfg0.N) (d : Fin 64) (k : Fin 1024) :
    (iblk m c 6 t : Vec Ideal S1x64x1024 .bf16) (ix3 0 d k) = (AH m c (t.cast hN)).o d k := by
  unfold AH argHead
  dsimp only
  show StableHlo.after hostOps0 (fun b => m (c, b)) (Proc.devRef .tc main_v7) (((cfg0.win 6).blk t).view.emb (ix3 0 d k)) = _
  entry_read
  pointwise
  blk_ext [idx6 t, grp]
  all_goals simp [grp]

/-- Window 8's block, entry by entry, from its argument. -/
theorem read8 (t : Fin cfg0.N) (d : Fin 64) (k : Fin 1024) :
    (iblk m c 8 t : Vec Ideal S1x64x1024 .fp8e5m2) (ix3 0 d k) = (AH m c (t.cast hN)).dO d k := by
  unfold AH argHead
  dsimp only
  show StableHlo.after hostOps0 (fun b => m (c, b)) (Proc.devRef .tc main_v10) (((cfg0.win 8).blk t).view.emb (ix3 0 d k)) = _
  entry_read
  pointwise
  blk_ext [idx8 t, grp]
  all_goals simp [grp]

/-- Window 7's block, the point's own row of it, from its argument. -/
theorem read7 (t : Fin cfg0.N) (s : Fin 1024) (h : k0_off3 (grid0.coords t) 0 < 8) :
    (iblk m c 7 t : Vec Ideal S8x1024 .f32) (ix2 ⟨k0_off3 (grid0.coords t) 0, h⟩ s) = (AH m c (t.cast hN)).lse s := by
  unfold AH argHead
  dsimp only
  have e := off3_eq t
  show StableHlo.after hostOps0 (fun b => m (c, b)) (Proc.devRef .tc main_v8) (((cfg0.win 7).blk t).view.emb (ix2 ⟨k0_off3 (grid0.coords t) 0, h⟩ s)) = _
  entry_read
  pointwise
  blk_ext [idx7 t, e]

/-- Window 9's block, the point's own row of it, from its argument. -/
theorem read9 (t : Fin cfg0.N) (s : Fin 1024) (h : k0_off3 (grid0.coords t) 0 < 8) :
    (iblk m c 9 t : Vec Ideal S8x1024 .f32) (ix2 ⟨k0_off3 (grid0.coords t) 0, h⟩ s) = (AH m c (t.cast hN)).dos s := by
  unfold AH argHead
  dsimp only
  have e := off3_eq t
  show StableHlo.after hostOps0 (fun b => m (c, b)) (Proc.devRef .tc main_v12) (((cfg0.win 9).blk t).view.emb (ix2 ⟨k0_off3 (grid0.coords t) 0, h⟩ s)) = _
  entry_read
  pointwise
  blk_ext [idx9 t, e]

/-- A grid point's blocks hold the head of its own number, whatever copies of the key and value blocks it is given, so long as these hold the group's. -/
theorem hd_eq (t : Fin cfg0.N) (kc vw : Fin 1024 → Fin 64 → EReal) (kw : Fin 64 → Fin 1024 → EReal)
    (hkc : ∀ k d, kc k d = (AH m c (t.cast hN)).kc k d) (hvw : ∀ k d, vw k d = (AH m c (t.cast hN)).vw k d)
    (hkw : ∀ d k, kw d k = (AH m c (t.cast hN)).kw d k) :
    hd (grid0.coords t) (iblk m c 0 t) (iblk m c 1 t) (iblk m c 2 t) (iblk m c 3 t) (iblk m c 4 t) (iblk m c 5 t) (iblk m c 6 t) (iblk m c 7 t) (iblk m c 8 t) (iblk m c 9 t) kc vw kw = AH m c (t.cast hN) := by
  obtain rfl : kc = _ := funext fun k => funext fun d => hkc k d
  obtain rfl : vw = _ := funext fun k => funext fun d => hvw k d
  obtain rfl : kw = _ := funext fun k => funext fun d => hkw k d
  refine Head.ext ?_ ?_ ?_ rfl rfl ?_ ?_ ?_ rfl rfl rfl ?_ ?_
  · exact read0 m c t _
  · exact read1 m c t _
  · exact read2 m c t _
  · exact funext fun d => funext fun s => read3 m c t d s
  · exact funext fun d => funext fun s => read6 m c t d s
  · exact funext fun d => funext fun s => read8 m c t d s
  · exact funext fun s => read7 m c t s _
  · exact funext fun s => read9 m c t s _

/-- A point that makes the copies itself. -/
theorem hdA_eq (t : Fin cfg0.N) : hdA (grid0.coords t) (iblk m c 0 t) (iblk m c 1 t) (iblk m c 2 t) (iblk m c 3 t) (iblk m c 4 t) (iblk m c 5 t) (iblk m c 6 t) (iblk m c 7 t) (iblk m c 8 t) (iblk m c 9 t) = AH m c (t.cast hN) :=
  hd_eq m c t _ _ _ (fun k d => read4 m c t d k) (fun k d => read5 m c t d k) (fun d k => read4 m c t d k)

end Cert.KernelIdeal.Gen
end
-- ==== Proof.PointA.lean ====
module

public import proofs.«01_k».proof.Proof.Gen.KernelIdeal.Frame
public import proofs.«01_k».proof.Proof.Point
public import Idealize.ShloMosaic.Lib.Pipeline.ValueKit
public import Idealize.ShloMosaic.Lib.Pipeline.ReadBack

@[expose] public section

set_option maxRecDepth 16384
set_option maxHeartbeats 4000000

noncomputable section

namespace Cert.KernelIdeal.Gen
open Idealize.ShloMosaic Idealize.ShloMosaic.TcCoe Idealize.ShloMosaic.Tactic
open Cert.Bwd

variable (c : Dev nD) (i : grid0.Coords) (arg1 : Memref sig .tc .smem S32 .f32) (harg1 : arg1.IsWhole) (arg2 : Memref sig .tc .smem S4 .f32) (harg2 : arg2.IsWhole) (arg3 : Memref sig .tc .smem S4 .f32) (harg3 : arg3.IsWhole) (arg4 : Memref sig .tc .vmem S1x64x1024 .fp8e4m3) (harg4 : arg4.IsWhole) (arg5 : Memref sig .tc .vmem S1x64x1024 .fp8e4m3) (harg5 : arg5.IsWhole) (arg6 : Memref sig .tc .vmem S1x64x1024 .fp8e4m3) (harg6 : arg6.IsWhole) (arg7 : Memref sig .tc .vmem S1x64x1024 .bf16) (harg7 : arg7.IsWhole) (arg8 : Memref sig .tc .vmem S8x1024 .f32) (harg8 : arg8.IsWhole) (arg9 : Memref sig .tc .vmem S1x64x1024 .fp8e5m2) (harg9 : arg9.IsWhole) (arg10 : Memref sig .tc .vmem S8x1024 .f32) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1024x64 .fp8e4m3) (harg14 : arg14.IsWhole) (arg15 : Memref sig .tc .vmem S1024x64 .bf16) (harg15 : arg15.IsWhole) (arg16 : Memref sig .tc .vmem S64x1024 .bf16) (harg16 : arg16.IsWhole) (arg17 : Memref sig .tc .vmem S64x1024 .f32) (harg17 : arg17.IsWhole) (arg18 : Memref sig .tc .vmem S64x1024 .f32) (harg18 : arg18.IsWhole)
  (x0 : Vec Ideal S32 .f32) (x1 : Vec Ideal S4 .f32) (x2 : Vec Ideal S4 .f32) (x3 : Vec Ideal S1x64x1024 .fp8e4m3) (x4 : Vec Ideal S1x64x1024 .fp8e4m3) (x5 : Vec Ideal S1x64x1024 .fp8e4m3) (x6 : Vec Ideal S1x64x1024 .bf16) (x7 : Vec Ideal S8x1024 .f32) (x8 : Vec Ideal S1x64x1024 .fp8e5m2) (x9 : Vec Ideal S8x1024 .f32)

section
variable (hc0 : cond0_0 i) (hc1 : ¬cond0_1 i)

/-- The query gradient block of a point at the start of a group. -/
theorem outA10 (y : S1x64x1024.Idx) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 y = (hdA i x0 x1 x2 x3 x4 x5 x6 x7 x8 x9).DQ (y 1) (y 2) := by
  frame_open
  simp (disch := decide) only [↓ View.readCov_skip, ↓ View.readCov_cons_toLoadRect, ↓ View.readCov_fill]
  frame_out
  canon_tiles x h
  all_goals (open_payloads; pointwise; simp (disch := omega) only [off3_1, zero_add, select_ge])
  case piece3 => rw [Head.DQ_0 _ x2_lt h1 h2]; rfl
  case piece2 => rw [Head.DQ_1 _ x2_lt h1 h2]; rfl
  case piece1 => rw [Head.DQ_2 _ x2_lt h1 h2]; rfl
  case piece0 => rw [Head.DQ_3 _ x2_lt h1 h2]; rfl

/-- The key gradient so far, after a point at the start of a group. -/
theorem soutA3 (y : S64x1024.Idx) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 y = (hdA i x0 x1 x2 x3 x4 x5 x6 x7 x8 x9).DK (y 0) (y 1) := by
  frame_open
  simp (disch := decide) only [↓ View.readCov_skip, ↓ View.readCov_cons_toLoadRect, ↓ View.readCov_fill]
  frame_out
  refine (canon_drop4 _ _ _ _ _ ![64, 256] rfl y).trans ?_
  canon_tiles x h
  all_goals (open_payloads; pointwise; simp (disch := omega) only [off3_1, zero_add, select_ge])
  case piece3 => rw [Head.DK_0 _ x1_lt h0 h1]; rfl
  case piece2 => rw [Head.DK_1 _ x1_lt h0 h1]; rfl
  case piece1 => rw [Head.DK_2 _ x1_lt h0 h1]; rfl
  case piece0 => rw [Head.DK_3 _ x1_lt h0 h1]; rfl

/-- The value gradient so far, after a point at the start of a group. -/
theorem soutA4 (y : S64x1024.Idx) : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 y = (hdA i x0 x1 x2 x3 x4 x5 x6 x7 x8 x9).DV (y 0) (y 1) := by
  frame_open
  simp (disch := decide) only [↓ View.readCov_skip, ↓ View.readCov_cons_toLoadRect, ↓ View.readCov_fill]
  frame_out
  refine (canon_drop4 _ _ _ _ _ ![64, 256] rfl y).trans ?_
  canon_tiles x h
  all_goals (open_payloads; pointwise; simp (disch := omega) only [off3_1, zero_add, select_ge])
  case piece3 => rw [Head.DV_0 _ x1_lt h0 h1]; rfl
  case piece2 => rw [Head.DV_1 _ x1_lt h0 h1]; rfl
  case piece1 => rw [Head.DV_2 _ x1_lt h0 h1]; rfl
  case piece0 => rw [Head.DV_3 _ x1_lt h0 h1]; rfl

/-- The transposed copy of the key block. -/
theorem soutA0 (y : S1024x64.Idx) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 y = x4 (ix3 0 (y 1) (y 0)) := by
  frame_out
  open_payloads; pointwise

/-- The transposed copy of the value block. -/
theorem soutA1 (y : S1024x64.Idx) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 y = x5 (ix3 0 (y 1) (y 0)) := by
  frame_out
  open_payloads; pointwise

/-- The widened copy of the key block. -/
theorem soutA2 (y : S64x1024.Idx) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 y = x4 (ix3 0 (y 0) (y 1)) := by
  frame_out
  open_payloads; pointwise
end
end Cert.KernelIdeal.Gen
end
-- ==== Proof.PointB.lean ====
module

public import proofs.«01_k».proof.Proof.Gen.KernelIdeal.Frame
public import proofs.«01_k».proof.Proof.Point
public import Idealize.ShloMosaic.Lib.Pipeline.ValueKit
public import Idealize.ShloMosaic.Lib.Pipeline.ReadBack

@[expose] public section

set_option maxRecDepth 16384
set_option maxHeartbeats 4000000

noncomputable section

namespace Cert.KernelIdeal.Gen
open Idealize.ShloMosaic Idealize.ShloMosaic.TcCoe Idealize.ShloMosaic.Tactic
open Cert.Bwd

variable (c : Dev nD) (i : grid0.Coords) (arg1 : Memref sig .tc .smem S32 .f32) (harg1 : arg1.IsWhole) (arg2 : Memref sig .tc .smem S4 .f32) (harg2 : arg2.IsWhole) (arg3 : Memref sig .tc .smem S4 .f32) (harg3 : arg3.IsWhole) (arg4 : Memref sig .tc .vmem S1x64x1024 .fp8e4m3) (harg4 : arg4.IsWhole) (arg5 : Memref sig .tc .vmem S1x64x1024 .fp8e4m3) (harg5 : arg5.IsWhole) (arg6 : Memref sig .tc .vmem S1x64x1024 .fp8e4m3) (harg6 : arg6.IsWhole) (arg7 : Memref sig .tc .vmem S1x64x1024 .bf16) (harg7 : arg7.IsWhole) (arg8 : Memref sig .tc .vmem S8x1024 .f32) (harg8 : arg8.IsWhole) (arg9 : Memref sig .tc .vmem S1x64x1024 .fp8e5m2) (harg9 : arg9.IsWhole) (arg10 : Memref sig .tc .vmem S8x1024 .f32) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1024x64 .fp8e4m3) (harg14 : arg14.IsWhole) (arg15 : Memref sig .tc .vmem S1024x64 .bf16) (harg15 : arg15.IsWhole) (arg16 : Memref sig .tc .vmem S64x1024 .bf16) (harg16 : arg16.IsWhole) (arg17 : Memref sig .tc .vmem S64x1024 .f32) (harg17 : arg17.IsWhole) (arg18 : Memref sig .tc .vmem S64x1024 .f32) (harg18 : arg18.IsWhole)
  (x0 : Vec Ideal S32 .f32) (x1 : Vec Ideal S4 .f32) (x2 : Vec Ideal S4 .f32) (x3 : Vec Ideal S1x64x1024 .fp8e4m3) (x4 : Vec Ideal S1x64x1024 .fp8e4m3) (x5 : Vec Ideal S1x64x1024 .fp8e4m3) (x6 : Vec Ideal S1x64x1024 .bf16) (x7 : Vec Ideal S8x1024 .f32) (x8 : Vec Ideal S1x64x1024 .fp8e5m2) (x9 : Vec Ideal S8x1024 .f32)

variable (xs0 : Vec Ideal S1024x64 .fp8e4m3) (xs1 : Vec Ideal S1024x64 .bf16) (xs2 : Vec Ideal S64x1024 .bf16) (xs3 : Vec Ideal S64x1024 .f32) (xs4 : Vec Ideal S64x1024 .f32)

section
variable (hc0 : ¬cond0_0 i) (hc1 : ¬cond0_1 i)

/-- The query gradient block of a point inside a group. -/
theorem outB10 (y : S1x64x1024.Idx) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 xs4 y = (hdS i x0 x1 x2 x3 x4 x5 x6 x7 x8 x9 xs0 xs1 xs2).DQ (y 1) (y 2) := by
  frame_out
  canon_tiles x h
  all_goals (open_payloads; pointwise; simp (disch := omega) only [off3_1, zero_add, select_ge])
  case piece3 => rw [Head.DQ_0 _ x2_lt h1 h2]; rfl
  case piece2 => rw [Head.DQ_1 _ x2_lt h1 h2]; rfl
  case piece1 => rw [Head.DQ_2 _ x2_lt h1 h2]; rfl
  case piece0 => rw [Head.DQ_3 _ x2_lt h1 h2]; rfl

/-- The key gradient so far, after a point inside a group. -/
theorem soutB3 (y : S64x1024.Idx) : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 xs4 y = xs3 y + (hdS i x0 x1 x2 x3 x4 x5 x6 x7 x8 x9 xs0 xs1 xs2).DK (y 0) (y 1) := by
  frame_out
  canon_tiles x h
  all_goals (open_payloads; pointwise; simp (disch := omega) only [off3_1, zero_add, select_ge])
  case piece3 => rw [Head.DK_0 _ x1_lt h0 h1]; exact congrArg₂ (fun a b : EReal => a + b) (congrArg xs3 (ix2_eq y h0 h1)) rfl
  case piece2 => rw [Head.DK_1 _ x1_lt h0 h1]; exact congrArg₂ (fun a b : EReal => a + b) (congrArg xs3 (ix2_eq y h0 h1)) rfl
  case piece1 => rw [Head.DK_2 _ x1_lt h0 h1]; exact congrArg₂ (fun a b : EReal => a + b) (congrArg xs3 (ix2_eq y h0 h1)) rfl
  case piece0 => rw [Head.DK_3 _ x1_lt h0 h1]; exact congrArg₂ (fun a b : EReal => a + b) (congrArg xs3 (ix2_eq y h0 h1)) rfl

/-- The value gradient so far, after a point inside a group. -/
theorem soutB4 (y : S64x1024.Idx) : sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 xs4 y = xs4 y + (hdS i x0 x1 x2 x3 x4 x5 x6 x7 x8 x9 xs0 xs1 xs2).DV (y 0) (y 1) := by
  frame_out
  canon_tiles x h
  all_goals (open_payloads; pointwise; simp (disch := omega) only [off3_1, zero_add, select_ge])
  case piece3 => rw [Head.DV_0 _ x1_lt h0 h1]; exact congrArg₂ (fun a b : EReal => a + b) (congrArg xs4 (ix2_eq y h0 h1)) rfl
  case piece2 => rw [Head.DV_1 _ x1_lt h0 h1]; exact congrArg₂ (fun a b : EReal => a + b) (congrArg xs4 (ix2_eq y h0 h1)) rfl
  case piece1 => rw [Head.DV_2 _ x1_lt h0 h1]; exact congrArg₂ (fun a b : EReal => a + b) (congrArg xs4 (ix2_eq y h0 h1)) rfl
  case piece0 => rw [Head.DV_3 _ x1_lt h0 h1]; exact congrArg₂ (fun a b : EReal => a + b) (congrArg xs4 (ix2_eq y h0 h1)) rfl
end
end Cert.KernelIdeal.Gen
end
-- ==== Proof.PointC.lean ====
module

public import proofs.«01_k».proof.Proof.Gen.KernelIdeal.Frame
public import proofs.«01_k».proof.Proof.Point
public import Idealize.ShloMosaic.Lib.Pipeline.ValueKit
public import Idealize.ShloMosaic.Lib.Pipeline.ReadBack

@[expose] public section

set_option maxRecDepth 16384
set_option maxHeartbeats 4000000

noncomputable section

namespace Cert.KernelIdeal.Gen
open Idealize.ShloMosaic Idealize.ShloMosaic.TcCoe Idealize.ShloMosaic.Tactic
open Cert.Bwd

variable (c : Dev nD) (i : grid0.Coords) (arg1 : Memref sig .tc .smem S32 .f32) (harg1 : arg1.IsWhole) (arg2 : Memref sig .tc .smem S4 .f32) (harg2 : arg2.IsWhole) (arg3 : Memref sig .tc .smem S4 .f32) (harg3 : arg3.IsWhole) (arg4 : Memref sig .tc .vmem S1x64x1024 .fp8e4m3) (harg4 : arg4.IsWhole) (arg5 : Memref sig .tc .vmem S1x64x1024 .fp8e4m3) (harg5 : arg5.IsWhole) (arg6 : Memref sig .tc .vmem S1x64x1024 .fp8e4m3) (harg6 : arg6.IsWhole) (arg7 : Memref sig .tc .vmem S1x64x1024 .bf16) (harg7 : arg7.IsWhole) (arg8 : Memref sig .tc .vmem S8x1024 .f32) (harg8 : arg8.IsWhole) (arg9 : Memref sig .tc .vmem S1x64x1024 .fp8e5m2) (harg9 : arg9.IsWhole) (arg10 : Memref sig .tc .vmem S8x1024 .f32) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1024x64 .fp8e4m3) (harg14 : arg14.IsWhole) (arg15 : Memref sig .tc .vmem S1024x64 .bf16) (harg15 : arg15.IsWhole) (arg16 : Memref sig .tc .vmem S64x1024 .bf16) (harg16 : arg16.IsWhole) (arg17 : Memref sig .tc .vmem S64x1024 .f32) (harg17 : arg17.IsWhole) (arg18 : Memref sig .tc .vmem S64x1024 .f32) (harg18 : arg18.IsWhole)
  (x0 : Vec Ideal S32 .f32) (x1 : Vec Ideal S4 .f32) (x2 : Vec Ideal S4 .f32) (x3 : Vec Ideal S1x64x1024 .fp8e4m3) (x4 : Vec Ideal S1x64x1024 .fp8e4m3) (x5 : Vec Ideal S1x64x1024 .fp8e4m3) (x6 : Vec Ideal S1x64x1024 .bf16) (x7 : Vec Ideal S8x1024 .f32) (x8 : Vec Ideal S1x64x1024 .fp8e5m2) (x9 : Vec Ideal S8x1024 .f32)

variable (xs0 : Vec Ideal S1024x64 .fp8e4m3) (xs1 : Vec Ideal S1024x64 .bf16) (xs2 : Vec Ideal S64x1024 .bf16) (xs3 : Vec Ideal S64x1024 .f32) (xs4 : Vec Ideal S64x1024 .f32)

section
variable (hc0 : ¬cond0_0 i) (hc1 : cond0_1 i)

/-- The query gradient block of a point at the end of a group. -/
theorem outC10 (y : S1x64x1024.Idx) : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 xs4 y = (hdS i x0 x1 x2 x3 x4 x5 x6 x7 x8 x9 xs0 xs1 xs2).DQ (y 1) (y 2) := by
  frame_out
  canon_tiles x h
  all_goals (open_payloads; pointwise; simp (disch := omega) only [off3_1, zero_add, select_ge])
  case piece3 => rw [Head.DQ_0 _ x2_lt h1 h2]; rfl
  case piece2 => rw [Head.DQ_1 _ x2_lt h1 h2]; rfl
  case piece1 => rw [Head.DQ_2 _ x2_lt h1 h2]; rfl
  case piece0 => rw [Head.DQ_3 _ x2_lt h1 h2]; rfl

/-- The key gradient so far, after a point at the end of a group. -/
theorem soutC3 (y : S64x1024.Idx) : sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 xs4 y = xs3 y + (hdS i x0 x1 x2 x3 x4 x5 x6 x7 x8 x9 xs0 xs1 xs2).DK (y 0) (y 1) := by
  frame_out
  canon_tiles x h
  all_goals (open_payloads; pointwise; simp (disch := omega) only [off3_1, zero_add, select_ge])
  case piece3 => rw [Head.DK_0 _ x1_lt h0 h1]; exact congrArg₂ (fun a b : EReal => a + b) (congrArg xs3 (ix2_eq y h0 h1)) rfl
  case piece2 => rw [Head.DK_1 _ x1_lt h0 h1]; exact congrArg₂ (fun a b : EReal => a + b) (congrArg xs3 (ix2_eq y h0 h1)) rfl
  case piece1 => rw [Head.DK_2 _ x1_lt h0 h1]; exact congrArg₂ (fun a b : EReal => a + b) (congrArg xs3 (ix2_eq y h0 h1)) rfl
  case piece0 => rw [Head.DK_3 _ x1_lt h0 h1]; exact congrArg₂ (fun a b : EReal => a + b) (congrArg xs3 (ix2_eq y h0 h1)) rfl

/-- The value gradient so far, after a point at the end of a group. -/
theorem soutC4 (y : S64x1024.Idx) : sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 xs4 y = xs4 y + (hdS i x0 x1 x2 x3 x4 x5 x6 x7 x8 x9 xs0 xs1 xs2).DV (y 0) (y 1) := by
  frame_out
  canon_tiles x h
  all_goals (open_payloads; pointwise; simp (disch := omega) only [off3_1, zero_add, select_ge])
  case piece3 => rw [Head.DV_0 _ x1_lt h0 h1]; exact congrArg₂ (fun a b : EReal => a + b) (congrArg xs4 (ix2_eq y h0 h1)) rfl
  case piece2 => rw [Head.DV_1 _ x1_lt h0 h1]; exact congrArg₂ (fun a b : EReal => a + b) (congrArg xs4 (ix2_eq y h0 h1)) rfl
  case piece1 => rw [Head.DV_2 _ x1_lt h0 h1]; exact congrArg₂ (fun a b : EReal => a + b) (congrArg xs4 (ix2_eq y h0 h1)) rfl
  case piece0 => rw [Head.DV_3 _ x1_lt h0 h1]; exact congrArg₂ (fun a b : EReal => a + b) (congrArg xs4 (ix2_eq y h0 h1)) rfl

/-- The key gradient block written at the end of a group. -/
theorem outC11 (y : S1x64x1024.Idx) : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 xs4 y = (xs3 (ix2 (y 1) (y 2)) + (hdS i x0 x1 x2 x3 x4 x5 x6 x7 x8 x9 xs0 xs1 xs2).DK (y 1) (y 2)) * Ideal.ofBits FTy.f32 1040187392#32 := by
  have e := soutC3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 xs0 xs1 xs2 xs3 xs4 hc0 hc1 (ix2 (y 1) (y 2))
  frame_out at e
  frame_out
  simp only [View.readCov_eq_canon']
  rw [pay1_apply]
  refine congrArg (fun a : EReal => a * Ideal.ofBits FTy.f32 1040187392#32) (Eq.trans (congrArg _ ?_) e)
  refine (ix2_eq _ ?_ ?_).symm <;> simp

/-- The value gradient block written at the end of a group. -/
theorem outC12 (y : S1x64x1024.Idx) : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 xs4 y = xs4 (ix2 (y 1) (y 2)) + (hdS i x0 x1 x2 x3 x4 x5 x6 x7 x8 x9 xs0 xs1 xs2).DV (y 1) (y 2) := by
  have e := soutC4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 xs0 xs1 xs2 xs3 xs4 hc0 hc1 (ix2 (y 1) (y 2))
  frame_out at e
  frame_out
  simp only [View.readCov_eq_canon']
  rw [pay2_apply]
  refine Eq.trans (congrArg _ ?_) e
  refine (ix2_eq _ ?_ ?_).symm <;> simp
end
end Cert.KernelIdeal.Gen
end
-- ==== Proof.Carry.lean ====
module

public import proofs.«01_k».proof.Proof.Reads
public import proofs.«01_k».proof.Proof.PointA
public import proofs.«01_k».proof.Proof.PointB
public import proofs.«01_k».proof.Proof.PointC
public import Idealize.ShloMosaic.Lib.Pipeline.ValueKit.Held

@[expose] public section

set_option maxRecDepth 16384
set_option maxHeartbeats 4000000

noncomputable section

namespace Cert.KernelIdeal.Gen
open Idealize.ShloMosaic Idealize.ShloMosaic.TcCoe Idealize.ShloMosaic.Tactic
open Cert.Bwd

variable (m : (ℓ : Loc nD τ sig) → Buf (Elt Ideal) ℓ) (c : Dev nD)

/-- Two heads of one group read the same key and value heads. -/
theorem AH_group {a b : Fin 32} (h : a.val / 8 = b.val / 8) :
    (AH m c a).kc = (AH m c b).kc ∧ (AH m c a).vw = (AH m c b).vw ∧ (AH m c a).kw = (AH m c b).kw := by
  have e : grp a = grp b := Fin.ext h
  refine ⟨?_, ?_, ?_⟩ <;> (unfold AH argHead; dsimp only; rw [e])

/-- A point that is not the first of its group is a point of the middle or of the end. -/
theorem not_first (t : Fin cfg0.N) (h1 : t.val % 8 = 7) : ¬t.val % 8 = 0 := by omega

/-- The point before one that is not a group's first. -/
abbrev prev (t : Fin cfg0.N) : Fin cfg0.N := ⟨t.val - 1, Nat.lt_of_le_of_lt (Nat.sub_le _ _) t.isLt⟩

/-- The transposed key copy after a group's first point. -/
theorem atA0 (t : Fin cfg0.N) (h0 : t.val % 8 = 0) (y : S1024x64.Idx) :
    (outsAt0 m c t.val t.isLt).2.2.2.1 y = (AH m c (t.cast hN)).kc (y 0) (y 1) := by
  have h1 : ¬t.val % 8 = 7 := by omega
  rw [outsAt0_A m c t h0 h1]
  dsimp only
  rw [soutA0]
  exact read4 m c t _ _

/-- The transposed value copy after a group's first point. -/
theorem atA1 (t : Fin cfg0.N) (h0 : t.val % 8 = 0) (y : S1024x64.Idx) :
    (outsAt0 m c t.val t.isLt).2.2.2.2.1 y = (AH m c (t.cast hN)).vw (y 0) (y 1) := by
  have h1 : ¬t.val % 8 = 7 := by omega
  rw [outsAt0_A m c t h0 h1]
  dsimp only
  rw [soutA1]
  exact read5 m c t _ _

/-- The widened key copy after a group's first point. -/
theorem atA2 (t : Fin cfg0.N) (h0 : t.val % 8 = 0) (y : S64x1024.Idx) :
    (outsAt0 m c t.val t.isLt).2.2.2.2.2.1 y = (AH m c (t.cast hN)).kw (y 0) (y 1) := by
  have h1 : ¬t.val % 8 = 7 := by omega
  rw [outsAt0_A m c t h0 h1]
  dsimp only
  rw [soutA2]
  exact read4 m c t _ _

/-- The transposed key copy is kept by a point inside a group. -/
theorem keepB0 (t : Fin cfg0.N) (h0 : ¬t.val % 8 = 0) (h1 : ¬t.val % 8 = 7) :
    (outsAt0 m c t.val t.isLt).2.2.2.1 = (outsAt0 m c (prev t).val (prev t).isLt).2.2.2.1 :=
  congrArg (fun p => p.2.2.2.1) (outsAt0_B m c t h0 h1)

/-- The transposed key copy is kept by a group's last point. -/
theorem keepC0 (t : Fin cfg0.N) (h1 : t.val % 8 = 7) :
    (outsAt0 m c t.val t.isLt).2.2.2.1 = (outsAt0 m c (prev t).val (prev t).isLt).2.2.2.1 :=
  congrArg (fun p => p.2.2.2.1) (outsAt0_C m c t (not_first t h1) h1)

/-- The transposed value copy is kept by a point inside a group. -/
theorem keepB1 (t : Fin cfg0.N) (h0 : ¬t.val % 8 = 0) (h1 : ¬t.val % 8 = 7) :
    (outsAt0 m c t.val t.isLt).2.2.2.2.1 = (outsAt0 m c (prev t).val (prev t).isLt).2.2.2.2.1 :=
  congrArg (fun p => p.2.2.2.2.1) (outsAt0_B m c t h0 h1)

/-- The transposed value copy is kept by a group's last point. -/
theorem keepC1 (t : Fin cfg0.N) (h1 : t.val % 8 = 7) :
    (outsAt0 m c t.val t.isLt).2.2.2.2.1 = (outsAt0 m c (prev t).val (prev t).isLt).2.2.2.2.1 :=
  congrArg (fun p => p.2.2.2.2.1) (outsAt0_C m c t (not_first t h1) h1)

/-- The widened key copy is kept by a point inside a group. -/
theorem keepB2 (t : Fin cfg0.N) (h0 : ¬t.val % 8 = 0) (h1 : ¬t.val % 8 = 7) :
    (outsAt0 m c t.val t.isLt).2.2.2.2.2.1 = (outsAt0 m c (prev t).val (prev t).isLt).2.2.2.2.2.1 :=
  congrArg (fun p => p.2.2.2.2.2.1) (outsAt0_B m c t h0 h1)

/-- The widened key copy is kept by a group's last point. -/
theorem keepC2 (t : Fin cfg0.N) (h1 : t.val % 8 = 7) :
    (outsAt0 m c t.val t.isLt).2.2.2.2.2.1 = (outsAt0 m c (prev t).val (prev t).isLt).2.2.2.2.2.1 :=
  congrArg (fun p => p.2.2.2.2.2.1) (outsAt0_C m c t (not_first t h1) h1)

/-- The transposed key copy, made at a group's first point and kept: after any point it holds the group's keys. -/
theorem kc_at (t : Fin cfg0.N) (y : S1024x64.Idx) :
    (outsAt0 m c t.val t.isLt).2.2.2.1 y = (AH m c (t.cast hN)).kc (y 0) (y 1) := by
  refine (Pipeline.eq_of_write_hold_apply (fun n h => (outsAt0 m c n h).2.2.2.1) 8
    (fun t y => (AH m c (t.cast hN)).kc (y 0) (y 1)) (fun t h0 y => atA0 m c t h0 y) (fun t h0 y => ?_) t y).trans ?_
  · by_cases h1 : t.val % 8 = 7
    · exact congrFun (keepC0 m c t h1) y
    · exact congrFun (keepB0 m c t h0 h1) y
  · exact congrFun (congrFun (AH_group m c (by simp)).1 _) _

/-- The transposed value copy, likewise. -/
theorem vw_at (t : Fin cfg0.N) (y : S1024x64.Idx) :
    (outsAt0 m c t.val t.isLt).2.2.2.2.1 y = (AH m c (t.cast hN)).vw (y 0) (y 1) := by
  refine (Pipeline.eq_of_write_hold_apply (fun n h => (outsAt0 m c n h).2.2.2.2.1) 8
    (fun t y => (AH m c (t.cast hN)).vw (y 0) (y 1)) (fun t h0 y => atA1 m c t h0 y) (fun t h0 y => ?_) t y).trans ?_
  · by_cases h1 : t.val % 8 = 7
    · exact congrFun (keepC1 m c t h1) y
    · exact congrFun (keepB1 m c t h0 h1) y
  · exact congrFun (congrFun (AH_group m c (by simp)).2.1 _) _

/-- The widened key copy, likewise. -/
theorem kw_at (t : Fin cfg0.N) (y : S64x1024.Idx) :
    (outsAt0 m c t.val t.isLt).2.2.2.2.2.1 y = (AH m c (t.cast hN)).kw (y 0) (y 1) := by
  refine (Pipeline.eq_of_write_hold_apply (fun n h => (outsAt0 m c n h).2.2.2.2.2.1) 8
    (fun t y => (AH m c (t.cast hN)).kw (y 0) (y 1)) (fun t h0 y => atA2 m c t h0 y) (fun t h0 y => ?_) t y).trans ?_
  · by_cases h1 : t.val % 8 = 7
    · exact congrFun (keepC2 m c t h1) y
    · exact congrFun (keepB2 m c t h0 h1) y
  · exact congrFun (congrFun (AH_group m c (by simp)).2.2 _) _

/-- A point that is not a group's first finds its own group's copies in scratch. -/
theorem hdS_eq (t : Fin cfg0.N) (h0 : ¬t.val % 8 = 0) :
    hdS (grid0.coords t) (iblk m c 0 t) (iblk m c 1 t) (iblk m c 2 t) (iblk m c 3 t) (iblk m c 4 t) (iblk m c 5 t) (iblk m c 6 t) (iblk m c 7 t)
      (iblk m c 8 t) (iblk m c 9 t) (outsAt0 m c (prev t).val (prev t).isLt).2.2.2.1 (outsAt0 m c (prev t).val (prev t).isLt).2.2.2.2.1
      (outsAt0 m c (prev t).val (prev t).isLt).2.2.2.2.2.1 = AH m c (t.cast hN) := by
  have g := AH_group m c (a := (prev t).cast hN) (b := t.cast hN) (by simp; omega)
  refine hd_eq m c t _ _ _ (fun k d => ?_) (fun k d => ?_) (fun d k => ?_)
  · exact (kc_at m c (prev t) _).trans (congrFun (congrFun g.1 _) _)
  · exact (vw_at m c (prev t) _).trans (congrFun (congrFun g.2.1 _) _)
  · exact (kw_at m c (prev t) _).trans (congrFun (congrFun g.2.2 _) _)

/-- The query gradient block after a group's first point. -/
theorem atA10 (t : Fin cfg0.N) (h0 : t.val % 8 = 0) (y : S1x64x1024.Idx) :
    (outsAt0 m c t.val t.isLt).1 y = (AH m c (t.cast hN)).DQ (y 1) (y 2) := by
  have h1 : ¬t.val % 8 = 7 := by omega
  rw [outsAt0_A m c t h0 h1]
  dsimp only
  rw [outA10, hdA_eq m c t]

/-- The query gradient block after a point inside a group. -/
theorem atB10 (t : Fin cfg0.N) (h0 : ¬t.val % 8 = 0) (h1 : ¬t.val % 8 = 7) (y : S1x64x1024.Idx) :
    (outsAt0 m c t.val t.isLt).1 y = (AH m c (t.cast hN)).DQ (y 1) (y 2) := by
  rw [outsAt0_B m c t h0 h1]
  dsimp only
  rw [outB10, hdS_eq m c t h0]

/-- The query gradient block after a group's last point. -/
theorem atC10 (t : Fin cfg0.N) (h1 : t.val % 8 = 7) (y : S1x64x1024.Idx) :
    (outsAt0 m c t.val t.isLt).1 y = (AH m c (t.cast hN)).DQ (y 1) (y 2) := by
  have h0 := not_first t h1
  rw [outsAt0_C m c t h0 h1]
  dsimp only
  rw [outC10, hdS_eq m c t h0]

/-- The key accumulator after a group's first point. -/
theorem atA3 (t : Fin cfg0.N) (h0 : t.val % 8 = 0) (y : S64x1024.Idx) :
    (outsAt0 m c t.val t.isLt).2.2.2.2.2.2.1 y = (AH m c (t.cast hN)).DK (y 0) (y 1) := by
  have h1 : ¬t.val % 8 = 7 := by omega
  rw [outsAt0_A m c t h0 h1]
  dsimp only
  rw [soutA3, hdA_eq m c t]

/-- The key accumulator after a point inside a group. -/
theorem atB3 (t : Fin cfg0.N) (h0 : ¬t.val % 8 = 0) (h1 : ¬t.val % 8 = 7) (y : S64x1024.Idx) :
    (outsAt0 m c t.val t.isLt).2.2.2.2.2.2.1 y = (outsAt0 m c (prev t).val (prev t).isLt).2.2.2.2.2.2.1 y + (AH m c (t.cast hN)).DK (y 0) (y 1) := by
  rw [outsAt0_B m c t h0 h1]
  dsimp only
  rw [soutB3, hdS_eq m c t h0]

/-- The key accumulator after a group's last point. -/
theorem atC3 (t : Fin cfg0.N) (h1 : t.val % 8 = 7) (y : S64x1024.Idx) :
    (outsAt0 m c t.val t.isLt).2.2.2.2.2.2.1 y = (outsAt0 m c (prev t).val (prev t).isLt).2.2.2.2.2.2.1 y + (AH m c (t.cast hN)).DK (y 0) (y 1) := by
  have h0 := not_first t h1
  rw [outsAt0_C m c t h0 h1]
  dsimp only
  rw [soutC3, hdS_eq m c t h0]

/-- The value accumulator after a group's first point. -/
theorem atA4 (t : Fin cfg0.N) (h0 : t.val % 8 = 0) (y : S64x1024.Idx) :
    (outsAt0 m c t.val t.isLt).2.2.2.2.2.2.2 y = (AH m c (t.cast hN)).DV (y 0) (y 1) := by
  have h1 : ¬t.val % 8 = 7 := by omega
  rw [outsAt0_A m c t h0 h1]
  dsimp only
  rw [soutA4, hdA_eq m c t]

/-- The value accumulator after a point inside a group. -/
theorem atB4 (t : Fin cfg0.N) (h0 : ¬t.val % 8 = 0) (h1 : ¬t.val % 8 = 7) (y : S64x1024.Idx) :
    (outsAt0 m c t.val t.isLt).2.2.2.2.2.2.2 y = (outsAt0 m c (prev t).val (prev t).isLt).2.2.2.2.2.2.2 y + (AH m c (t.cast hN)).DV (y 0) (y 1) := by
  rw [outsAt0_B m c t h0 h1]
  dsimp only
  rw [soutB4, hdS_eq m c t h0]

/-- The value accumulator after a group's last point. -/
theorem atC4 (t : Fin cfg0.N) (h1 : t.val % 8 = 7) (y : S64x1024.Idx) :
    (outsAt0 m c t.val t.isLt).2.2.2.2.2.2.2 y = (outsAt0 m c (prev t).val (prev t).isLt).2.2.2.2.2.2.2 y + (AH m c (t.cast hN)).DV (y 0) (y 1) := by
  have h0 := not_first t h1
  rw [outsAt0_C m c t h0 h1]
  dsimp only
  rw [soutC4, hdS_eq m c t h0]

/-- The key gradient block after a group's last point. -/
theorem atC11 (t : Fin cfg0.N) (h1 : t.val % 8 = 7) (y : S1x64x1024.Idx) :
    (outsAt0 m c t.val t.isLt).2.1 y = ((outsAt0 m c (prev t).val (prev t).isLt).2.2.2.2.2.2.1 (ix2 (y 1) (y 2)) + (AH m c (t.cast hN)).DK (y 1) (y 2)) * Ideal.ofBits FTy.f32 1040187392#32 := by
  have h0 := not_first t h1
  rw [outsAt0_C m c t h0 h1]
  dsimp only
  rw [outC11, hdS_eq m c t h0]

/-- The value gradient block after a group's last point. -/
theorem atC12 (t : Fin cfg0.N) (h1 : t.val % 8 = 7) (y : S1x64x1024.Idx) :
    (outsAt0 m c t.val t.isLt).2.2.1 y = (outsAt0 m c (prev t).val (prev t).isLt).2.2.2.2.2.2.2 (ix2 (y 1) (y 2)) + (AH m c (t.cast hN)).DV (y 1) (y 2) := by
  have h0 := not_first t h1
  rw [outsAt0_C m c t h0 h1]
  dsimp only
  rw [outC12, hdS_eq m c t h0]

/-- Every point's query gradient block is its head's. -/
theorem dq_at (t : Fin cfg0.N) (y : S1x64x1024.Idx) :
    (outsAt0 m c t.val t.isLt).1 y = (AH m c (t.cast hN)).DQ (y 1) (y 2) := by
  by_cases h0 : t.val % 8 = 0
  · exact atA10 m c t h0 y
  · by_cases h1 : t.val % 8 = 7
    · exact atC10 m c t h1 y
    · exact atB10 m c t h0 h1 y

/-- At a group's end the key accumulator holds the eight heads' key gradients. -/
theorem dk_at (t : Fin cfg0.N) (h7 : t.val % 8 = 7) (y : S64x1024.Idx) :
    (outsAt0 m c t.val t.isLt).2.2.2.2.2.2.1 y = ∑ s : Fin 8, (AH m c (mem (grp (t.cast hN)) s)).DK (y 0) (y 1) := by
  refine (Pipeline.eq_sum_fin_of_reset_step_apply_of_flush (fun n h => (outsAt0 m c n h).2.2.2.2.2.2.1) 8 (fun _ => (0 : EReal))
    (fun t y => (AH m c (t.cast hN)).DK (y 0) (y 1)) (fun t h0 y => (atA3 m c t h0 y).trans (zero_add _).symm) (fun t h0 y => ?_) t h7 y).trans
    ((zero_add _).trans rfl)
  by_cases h1 : t.val % 8 = 7
  · exact atC3 m c t h1 y
  · exact atB3 m c t h0 h1 y

/-- At a group's end the value accumulator holds the eight heads' value gradients. -/
theorem dv_at (t : Fin cfg0.N) (h7 : t.val % 8 = 7) (y : S64x1024.Idx) :
    (outsAt0 m c t.val t.isLt).2.2.2.2.2.2.2 y = ∑ s : Fin 8, (AH m c (mem (grp (t.cast hN)) s)).DV (y 0) (y 1) := by
  refine (Pipeline.eq_sum_fin_of_reset_step_apply_of_flush (fun n h => (outsAt0 m c n h).2.2.2.2.2.2.2) 8 (fun _ => (0 : EReal))
    (fun t y => (AH m c (t.cast hN)).DV (y 0) (y 1)) (fun t h0 y => (atA4 m c t h0 y).trans (zero_add _).symm) (fun t h0 y => ?_) t h7 y).trans
    ((zero_add _).trans rfl)
  by_cases h1 : t.val % 8 = 7
  · exact atC4 m c t h1 y
  · exact atB4 m c t h0 h1 y

/-- The key gradient block written at a group's end. -/
theorem out11_at (t : Fin cfg0.N) (h7 : t.val % 8 = 7) (y : S1x64x1024.Idx) :
    (outsAt0 m c t.val t.isLt).2.1 y
      = (∑ s : Fin 8, (AH m c (mem (grp (t.cast hN)) s)).DK (y 1) (y 2)) * Ideal.ofBits FTy.f32 1040187392#32 :=
  (atC11 m c t h7 y).trans (congrArg (fun a : EReal => a * Ideal.ofBits FTy.f32 1040187392#32)
    ((atC3 m c t h7 (ix2 (y 1) (y 2))).symm.trans (dk_at m c t h7 (ix2 (y 1) (y 2)))))

/-- The value gradient block written at a group's end. -/
theorem out12_at (t : Fin cfg0.N) (h7 : t.val % 8 = 7) (y : S1x64x1024.Idx) :
    (outsAt0 m c t.val t.isLt).2.2.1 y = ∑ s : Fin 8, (AH m c (mem (grp (t.cast hN)) s)).DV (y 1) (y 2) :=
  (atC12 m c t h7 y).trans ((atC4 m c t h7 (ix2 (y 1) (y 2))).symm.trans (dv_at m c t h7 (ix2 (y 1) (y 2))))

end Cert.KernelIdeal.Gen
end
-- ==== Proof.KernelValue.lean ====
/- WHAT THE KERNEL COMPUTES, result by result: each array the region leaves, its blocks put together, and the three
   transposed results the host lines after the region make of them, index by index over the head functions of Spec. -/
module

public import proofs.«01_k».proof.Proof.Carry

@[expose] public section

set_option maxRecDepth 16384
set_option maxHeartbeats 4000000

noncomputable section

namespace Cert.KernelIdeal.Gen
open Idealize.ShloMosaic Idealize.ShloMosaic.TcCoe Idealize.ShloMosaic.Tactic
open Cert.Bwd

variable (m : (ℓ : Loc nD τ sig) → Buf (Elt Ideal) ℓ) (c : Dev nD)

theorem idx10 : ∀ t : Fin cfg0.N, win0_10.index t = ![t.val, 0, 0] := (by decide +kernel : ∀ t : Fin grid0.N, _)
theorem idx11 : ∀ t : Fin cfg0.N, win0_11.index t = ![t.val / 8, 0, 0] := (by decide +kernel : ∀ t : Fin grid0.N, _)
theorem idx12 : ∀ t : Fin cfg0.N, win0_12.index t = ![t.val / 8, 0, 0] := (by decide +kernel : ∀ t : Fin grid0.N, _)

/-- The query gradient array after the region: every head's query gradient. -/
theorem arr10 : (dats m 0 c).arrAt 10 cfg0.N = fun j : S32x64x1024.Idx => (AH m c (j 0)).DQ (j 1) (j 2) := by
  refine (dats m 0 c).arrAt_eq_of_covers 10 _ (by decide +kernel) fun t hf y => ?_
  blk_simp
  rw [after0_10]
  refine (dq_at m c t y).trans ?_
  have e : ((cfg0.win 10).blk t).view.emb y = ix3 (t.cast hN) (y 1) (y 2) := by blk_ext [idx10 t]; all_goals rfl
  exact (congrArg (fun j : S32x64x1024.Idx => (AH m c (j 0)).DQ (j 1) (j 2)) e).symm

/-- The key gradient array after the region: every group's key gradient, its eight heads' added. -/
theorem arr11 : (dats m 0 c).arrAt 11 cfg0.N = fun j : S4x64x1024.Idx => (∑ s : Fin 8, (AH m c (mem (j 0) s)).DK (j 1) (j 2)) * Ideal.ofBits FTy.f32 1040187392#32 := by
  refine (dats m 0 c).arrAt_eq_of_covers 11 _ (by decide +kernel) fun t hf y => ?_
  have h7 := (flush0_11 t).mp hf
  blk_simp
  rw [after0_11]
  refine (out11_at m c t h7 y).trans ?_
  have e : ((cfg0.win 11).blk t).view.emb y = ix3 (grp (t.cast hN)) (y 1) (y 2) := by blk_ext [idx11 t, grp]; all_goals rfl
  exact (congrArg (fun j : S4x64x1024.Idx => (∑ s : Fin 8, (AH m c (mem (j 0) s)).DK (j 1) (j 2)) * Ideal.ofBits FTy.f32 1040187392#32) e).symm

/-- The value gradient array after the region: every group's value gradient, its eight heads' added. -/
theorem arr12 : (dats m 0 c).arrAt 12 cfg0.N = fun j : S4x64x1024.Idx => (∑ s : Fin 8, (AH m c (mem (j 0) s)).DV (j 1) (j 2)) := by
  refine (dats m 0 c).arrAt_eq_of_covers 12 _ (by decide +kernel) fun t hf y => ?_
  have h7 := (flush0_12 t).mp hf
  blk_simp
  rw [after0_12]
  refine (out12_at m c t h7 y).trans ?_
  have e : ((cfg0.win 12).blk t).view.emb y = ix3 (grp (t.cast hN)) (y 1) (y 2) := by blk_ext [idx12 t, grp]; all_goals rfl
  exact (congrArg (fun j : S4x64x1024.Idx => (∑ s : Fin 8, (AH m c (mem (j 0) s)).DV (j 1) (j 2))) e).symm

/-- The query gradient result, index by index. -/
theorem tail15 (s : Fin 1024) (h : Fin 32) (d : Fin 64) :
    Pipeline.afterTail₀ cfgs (dats m) 0 (V0 m) [hostOps1] c main_v15 (ix4 0 s h d) = (AH m c h).DQ d s := by
  show StableHlo.after hostOps1 (Pipeline.withArrays spec0 c (V0 m c) fun w => (dats m 0 c).arrAt w cfg0.N) (Proc.devRef .tc main_v15) (ix4 0 s h d) = _
  entry_read
  pointwise
  exact congrFun ((Pipeline.withArrays_arr spec0 (by decide +kernel) c (V0 m c) (fun w => (dats m 0 c).arrAt w cfg0.N) 10).trans (arr10 m c)) (ix3 h d s)

/-- The key gradient result, index by index. -/
theorem tail17 (s : Fin 1024) (h : Fin 4) (d : Fin 64) :
    Pipeline.afterTail₀ cfgs (dats m) 0 (V0 m) [hostOps1] c main_v17 (ix4 0 s h d) = (∑ j : Fin 8, (AH m c (mem h j)).DK d s) * Ideal.ofBits FTy.f32 1040187392#32 := by
  show StableHlo.after hostOps1 (Pipeline.withArrays spec0 c (V0 m c) fun w => (dats m 0 c).arrAt w cfg0.N) (Proc.devRef .tc main_v17) (ix4 0 s h d) = _
  entry_read
  pointwise
  exact congrFun ((Pipeline.withArrays_arr spec0 (by decide +kernel) c (V0 m c) (fun w => (dats m 0 c).arrAt w cfg0.N) 11).trans (arr11 m c)) (ix3 h d s)

/-- The value gradient result, index by index. -/
theorem tail19 (s : Fin 1024) (h : Fin 4) (d : Fin 64) :
    Pipeline.afterTail₀ cfgs (dats m) 0 (V0 m) [hostOps1] c main_v19 (ix4 0 s h d) = (∑ j : Fin 8, (AH m c (mem h j)).DV d s) := by
  show StableHlo.after hostOps1 (Pipeline.withArrays spec0 c (V0 m c) fun w => (dats m 0 c).arrAt w cfg0.N) (Proc.devRef .tc main_v19) (ix4 0 s h d) = _
  entry_read
  pointwise
  exact congrFun ((Pipeline.withArrays_arr spec0 (by decide +kernel) c (V0 m c) (fun w => (dats m 0 c).arrAt w cfg0.N) 12).trans (arr12 m c)) (ix3 h d s)

end Cert.KernelIdeal.Gen
end
-- ==== Proof.RefSpec.lean ====
/- THE EQUATION, for one head: the reference's formulas (exponentials of a masked, scaled score; the row's correction summed
   over scaled gradients) are the ones of Spec (powers of two over the unmasked score, masked after; the correction scaled
   once), where the constant is the reciprocal of the logarithm of two and the row scales are real and not negative. -/
module

public import proofs.«01_k».proof.Proof.Spec
public import Mathlib.Analysis.SpecialFunctions.Pow.Real

@[expose] public section

noncomputable section

namespace Cert.Bwd
open Idealize.ShloMosaic

/-- The comparison of two positions of a row, as the order on them. -/
theorem select_sge (a b : Fin 1024) (u v : EReal) :
    Scalar.select (IntOp.cmpi CmpIPredicate.sge (BitVec.ofNat 32 a.val) (BitVec.ofNat 32 b.val)) u v = if b ≤ a then u else v := by
  have tn : ∀ n < 1024, (BitVec.ofNat 32 n).toInt = n := fun n hn => by
    rw [BitVec.toInt_eq_toNat_of_lt (by rw [BitVec.toNat_ofNat]; omega), BitVec.toNat_ofNat]; omega
  have e : (IntOp.cmpi CmpIPredicate.sge (BitVec.ofNat 32 a.val) (BitVec.ofNat 32 b.val) = 1#1) ↔ b ≤ a := by
    rw [IntOp.cmpi_sge, tn _ a.isLt, tn _ b.isLt, Fin.le_def]; omega
  unfold Scalar.select
  exact if_congr e rfl rfl

/-- A power of two of a number over the logarithm of two is its exponential, infinities included. -/
theorem exp2_mul_inv_log (z : EReal) : Ideal.exp2 (z * (((Real.log 2)⁻¹ : ℝ) : EReal)) = Ideal.exp z := by
  have hl : 0 < Real.log 2 := Real.log_pos (by norm_num)
  induction z using EReal.rec with
  | bot => rw [EReal.bot_mul_coe_of_pos (inv_pos.mpr hl)]; rfl
  | top => rw [EReal.top_mul_coe_of_pos (inv_pos.mpr hl)]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    field_simp

/-- A finite sum of extended reals times a real number that is not negative is the sum of the products. -/
theorem sum_mul_real {n : ℕ} (f : Fin n → EReal) {c : EReal} (h0 : 0 ≤ c) (ht : c ≠ ⊤) : (∑ d, f d) * c = ∑ d, f d * c := by
  induction n with
  | zero => simp
  | succ n ih =>
    rw [Fin.sum_univ_castSucc, Fin.sum_univ_castSucc, EReal.right_distrib_of_nonneg_of_ne_top h0 ht, ih]

namespace Head
variable (H : Head)

/-- The reference's probability of key `k` for query `s`: the exponential of the masked score less the row statistic. -/
def rp (k s : Fin 1024) : EReal :=
  Ideal.exp ((if k ≤ s then (∑ d, H.kc k d * H.q d s) * (H.qs * H.ks * H.c8) else ⊥) - H.lse s)

/-- The reference's factor beside the probability: the correction is summed over the scaled gradient. -/
def rt (k s : Fin 1024) : EReal :=
  (∑ d, H.vw k d * H.dO d s) * (H.dos s * H.vs) - ∑ d, H.dO d s * H.dos s * H.o d s

/-- The reference's probability is the power of two up to the diagonal and zero past it. -/
theorem rp_eq (hL : H.L = (((Real.log 2)⁻¹ : ℝ) : EReal)) (k s : Fin 1024) : H.rp k s = if k ≤ s then H.p k s else 0 := by
  unfold rp p
  by_cases h : k ≤ s
  · have hl : (0 : EReal) ≤ (((Real.log 2)⁻¹ : ℝ) : EReal) :=
      EReal.coe_nonneg.mpr (inv_nonneg.mpr (Real.log_nonneg (by norm_num)))
    rw [if_pos h, if_pos h, hL, ← exp2_mul_inv_log, sub_eq_add_neg, sub_eq_add_neg,
      EReal.right_distrib_of_nonneg_of_ne_top hl (EReal.coe_ne_top _), EReal.neg_mul, mul_assoc (∑ d, H.kc k d * H.q d s)]
  · rw [if_neg h, if_neg h, sub_eq_add_neg, EReal.bot_add]; rfl

/-- The two corrections agree where the row's scale is real and not negative. -/
theorem rt_eq (k s : Fin 1024) (h0 : 0 ≤ H.dos s) (ht : H.dos s ≠ ⊤) : H.rt k s = H.t k s := by
  unfold rt t
  rw [sum_mul_real _ h0 ht]
  congr 1
  exact Finset.sum_congr rfl fun d _ => by rw [mul_assoc, mul_assoc, mul_comm (H.dos s)]

variable (hL : H.L = (((Real.log 2)⁻¹ : ℝ) : EReal)) (h0 : ∀ s, 0 ≤ H.dos s) (ht : ∀ s, H.dos s ≠ ⊤)
include hL

/-- The value gradient by the reference's formula. -/
theorem ref_DV (d : Fin 64) (k : Fin 1024) : ∑ s, H.dO d s * H.dos s * H.rp k s = H.DV d k := by
  unfold DV
  refine Finset.sum_congr rfl fun s _ => ?_
  rw [H.rp_eq hL]
  split_ifs <;> simp

include h0 ht

/-- The query gradient by the reference's formula. -/
theorem ref_DQ (d : Fin 64) (s : Fin 1024) : (∑ k, H.kw d k * (H.rp k s * H.rt k s)) * (H.ks * H.c8) = H.DQ d s := by
  unfold DQ
  refine congrArg (fun a => a * (H.ks * H.c8)) (Finset.sum_congr rfl fun k _ => ?_)
  rw [H.rp_eq hL, H.rt_eq k s (h0 s) (ht s)]
  split_ifs <;> simp

/-- The key gradient by the reference's formula. -/
theorem ref_DK (d : Fin 64) (k : Fin 1024) : ∑ s, H.q d s * H.qs * (H.rp k s * H.rt k s) = H.DK d k := by
  unfold DK
  refine Finset.sum_congr rfl fun s _ => ?_
  rw [H.rp_eq hL, H.rt_eq k s (h0 s) (ht s)]
  split_ifs <;> simp

end Head
end Cert.Bwd
end
-- ==== Proof.RefValue.lean ====
/- WHAT THE REFERENCE COMPUTES, result by result: the four widened arrays the region leaves are the arguments, and the host lines
   after it make the three gradients of them, index by index over the head functions of Spec. -/
module

public import proofs.«01_k».proof.Proof.RefSpec
public import proofs.«01_k».proof.Proof.Gen.ReferenceIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384
set_option maxHeartbeats 4000000

noncomputable section

namespace Cert.ReferenceIdeal.Gen
open Idealize.ShloMosaic Idealize.ShloMosaic.TcCoe Idealize.ShloMosaic.Tactic
open Cert.Bwd

/-! ## The host lines, from any contents -/

/-- The reciprocal of the logarithm of two. -/
abbrev LG : EReal := (((Real.log 2)⁻¹ : ℝ) : EReal)

/-- Query head `h` as the contents `X` at the region's end give it. -/
abbrev XH (X : Valuation τ sig (Elt Ideal)) (h : Fin 32) : Head :=
  argHead (X (Proc.devRef .tc main_v0_0)) (X (Proc.devRef .tc main_arg1)) (X (Proc.devRef .tc main_v0_1)) (X (Proc.devRef .tc main_arg3))
    (X (Proc.devRef .tc main_v0_2)) (X (Proc.devRef .tc main_arg5)) (X (Proc.devRef .tc main_arg6)) (X (Proc.devRef .tc main_arg7))
    (X (Proc.devRef .tc main_v0_3)) (X (Proc.devRef .tc main_arg9)) (Ideal.ofBits FTy.f32 1040187392#32) LG h

/-- The mask's fill is the least extended real. -/
theorem fill : Ideal.ofBits FTy.f32 4286578688#32 = ⊥ := by simp [Ideal.ofBits, Ideal.ieee]

/-- A head's number from its group and place. -/
theorem head_split (h : Fin 32) (p : h.val / 8 * 8 + h.val % 8 < 32) : (⟨h.val / 8 * 8 + h.val % 8, p⟩ : Fin 32) = h :=
  Fin.ext (by simp; omega)

/-- A head's number from a group and a place, in the order of Spec. -/
theorem head_mem (g : Fin 4) (j : Fin 8) (p : g.val * 8 + j.val < 32) : (⟨g.val * 8 + j.val, p⟩ : Fin 32) = mem g j :=
  Fin.ext (by simp [mem]; omega)

/-- The group of a group's head. -/
theorem grp_mem (g : Fin 4) (j : Fin 8) : grp (mem g j) = g := Fin.ext (by simp [mem, grp]; omega)

/-- The query gradient result. -/
theorem res75 (X : Valuation τ sig (Elt Ideal)) (s : Fin 1024) (h : Fin 32) (d : Fin 64) :
    StableHlo.after hostOps1_2 (StableHlo.after hostOps1_1 (StableHlo.after hostOps1 X)) (Proc.devRef .tc main_v75) (ix4 0 s h d)
      = (∑ k, (XH X h).kw d k * ((XH X h).rp k s * (XH X h).rt k s)) * ((XH X h).ks * (XH X h).c8) := by
  after_reads_simp
  simp only [StableHlo.TRef.ofBuf_toBuf, StableHlo.TRef.ofBuf, StableHlo.TRef.toBuf, cast_eq, id_eq]
  pointwise
  simp only [select_sge, fill, head_split]
  unfold Head.rp Head.rt XH argHead
  rfl

/-- The key gradient result. -/
theorem res76 (X : Valuation τ sig (Elt Ideal)) (s : Fin 1024) (h : Fin 4) (d : Fin 64) :
    StableHlo.after hostOps1_2 (StableHlo.after hostOps1_1 (StableHlo.after hostOps1 X)) (Proc.devRef .tc main_v76) (ix4 0 s h d)
      = (∑ j : Fin 8, ∑ q, (XH X (mem h j)).q d q * (XH X (mem h j)).qs * ((XH X (mem h j)).rp s q * (XH X (mem h j)).rt s q)) * Ideal.ofBits FTy.f32 1040187392#32 := by
  after_reads_simp
  simp only [StableHlo.TRef.ofBuf_toBuf, StableHlo.TRef.ofBuf, StableHlo.TRef.toBuf, cast_eq, id_eq]
  pointwise
  simp only [select_sge, fill, head_mem]
  unfold Head.rp Head.rt XH argHead
  simp only [grp_mem]

/-- The value gradient result. -/
theorem res77 (X : Valuation τ sig (Elt Ideal)) (s : Fin 1024) (h : Fin 4) (d : Fin 64) :
    StableHlo.after hostOps1_2 (StableHlo.after hostOps1_1 (StableHlo.after hostOps1 X)) (Proc.devRef .tc main_v77) (ix4 0 s h d)
      = ∑ j : Fin 8, ∑ q, (XH X (mem h j)).dO d q * (XH X (mem h j)).dos q * (XH X (mem h j)).rp s q := by
  after_reads_simp
  simp only [StableHlo.TRef.ofBuf_toBuf, StableHlo.TRef.ofBuf, StableHlo.TRef.toBuf, cast_eq, id_eq]
  pointwise
  simp only [select_sge, fill, head_mem]
  unfold Head.rp XH argHead
  simp only [grp_mem]

/-! ## The region's arrays -/

variable (m : (ℓ : Loc nD τ sig) → Buf (Elt Ideal) ℓ) (c : Dev nD)

theorem idx0 : ∀ t : Fin cfg0.N, win0_0.index t = ![0, 0, 0, 0] := (by decide +kernel : ∀ t : Fin grid0.N, _)
theorem idx4 : ∀ t : Fin cfg0.N, win0_4.index t = ![0, 0, 0, 0] := (by decide +kernel : ∀ t : Fin grid0.N, _)

/-- The widened array 0 holds argument 0. -/
theorem arr4 : (dats m 0 c).arrAt 4 cfg0.N = fun j : S1x1024x32x64.Idx => (m (c.tc.loc main_arg0) j : EReal) := by
  refine (dats m 0 c).arrAt_eq_of_covers 4 _ (by decide +kernel) fun t hf y => ?_
  blk_simp
  rw [after0_4]
  frame_out
  pointwise [k0_pay1]
  blk_ext! [iblk, V, idx0 t, idx4 t]

theorem idx1 : ∀ t : Fin cfg0.N, win0_1.index t = ![0, 0, 0, 0] := (by decide +kernel : ∀ t : Fin grid0.N, _)
theorem idx5 : ∀ t : Fin cfg0.N, win0_5.index t = ![0, 0, 0, 0] := (by decide +kernel : ∀ t : Fin grid0.N, _)

/-- The widened array 1 holds argument 2. -/
theorem arr5 : (dats m 0 c).arrAt 5 cfg0.N = fun j : S1x1024x4x64.Idx => (m (c.tc.loc main_arg2) j : EReal) := by
  refine (dats m 0 c).arrAt_eq_of_covers 5 _ (by decide +kernel) fun t hf y => ?_
  blk_simp
  rw [after0_5]
  frame_out
  pointwise [k0_pay2]
  blk_ext! [iblk, V, idx1 t, idx5 t]

theorem idx2 : ∀ t : Fin cfg0.N, win0_2.index t = ![0, 0, 0, 0] := (by decide +kernel : ∀ t : Fin grid0.N, _)
theorem idx6 : ∀ t : Fin cfg0.N, win0_6.index t = ![0, 0, 0, 0] := (by decide +kernel : ∀ t : Fin grid0.N, _)

/-- The widened array 2 holds argument 4. -/
theorem arr6 : (dats m 0 c).arrAt 6 cfg0.N = fun j : S1x1024x4x64.Idx => (m (c.tc.loc main_arg4) j : EReal) := by
  refine (dats m 0 c).arrAt_eq_of_covers 6 _ (by decide +kernel) fun t hf y => ?_
  blk_simp
  rw [after0_6]
  frame_out
  pointwise [k0_pay3]
  blk_ext! [iblk, V, idx2 t, idx6 t]

theorem idx3 : ∀ t : Fin cfg0.N, win0_3.index t = ![0, 0, 0, 0] := (by decide +kernel : ∀ t : Fin grid0.N, _)
theorem idx7 : ∀ t : Fin cfg0.N, win0_7.index t = ![0, 0, 0, 0] := (by decide +kernel : ∀ t : Fin grid0.N, _)

/-- The widened array 3 holds argument 8. -/
theorem arr7 : (dats m 0 c).arrAt 7 cfg0.N = fun j : S1x1024x32x64.Idx => (m (c.tc.loc main_arg8) j : EReal) := by
  refine (dats m 0 c).arrAt_eq_of_covers 7 _ (by decide +kernel) fun t hf y => ?_
  blk_simp
  rw [after0_7]
  frame_out
  pointwise [k0_pay4]
  blk_ext! [iblk, V, idx3 t, idx7 t]

end Cert.ReferenceIdeal.Gen
end
-- ==== Proof.RefTail.lean ====
/- THE REFERENCE'S RESULTS over the head functions of Spec, of its argument arrays: the contents at the region's end are read back to
   the arguments, and the reference's formulas are the kernel's where the rows' scales are nonnegative and finite. -/
module

public import proofs.«01_k».proof.Proof.RefValue

@[expose] public section

set_option maxRecDepth 16384
set_option maxHeartbeats 4000000

noncomputable section

namespace Cert.ReferenceIdeal.Gen
open Idealize.ShloMosaic Idealize.ShloMosaic.TcCoe Idealize.ShloMosaic.Tactic
open Cert.Bwd

variable (m : (ℓ : Loc nD τ sig) → Buf (Elt Ideal) ℓ) (c : Dev nD)

/-- The contents at the region's end. -/
abbrev XE : Valuation τ sig (Elt Ideal) := Pipeline.withArrays spec0 c (V0 m c) fun w => (dats m 0 c).arrAt w cfg0.N

/-- Query head `h` as the reference's argument arrays give it. -/
abbrev RH (h : Fin 32) : Head :=
  argHead (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (Ideal.ofBits FTy.f32 1040187392#32) LG h

/-- A buffer no window of the region names is as launched at the region's end. -/
theorem XE_of_ne (b : Ref sig .tc) (hb : ∀ w, Pipeline.arrRef spec0 w ≠ b) : XE m c (Proc.devRef .tc b) = V0 m c (Proc.devRef .tc b) :=
  Pipeline.withArrays_of_ne _ c (V0 m c) _ b hb

/-- The widened queries at the region's end are the argument. -/
theorem XE_q : XE m c (Proc.devRef .tc main_v0_0) = fun j : S1x1024x32x64.Idx => (m (c.tc.loc main_arg0) j : EReal) :=
  (Pipeline.withArrays_arr spec0 (by decide +kernel) c (V0 m c) _ 4).trans (arr4 m c)

/-- The widened keys at the region's end are the argument. -/
theorem XE_k : XE m c (Proc.devRef .tc main_v0_1) = fun j : S1x1024x4x64.Idx => (m (c.tc.loc main_arg2) j : EReal) :=
  (Pipeline.withArrays_arr spec0 (by decide +kernel) c (V0 m c) _ 5).trans (arr5 m c)

/-- The widened values at the region's end are the argument. -/
theorem XE_v : XE m c (Proc.devRef .tc main_v0_2) = fun j : S1x1024x4x64.Idx => (m (c.tc.loc main_arg4) j : EReal) :=
  (Pipeline.withArrays_arr spec0 (by decide +kernel) c (V0 m c) _ 6).trans (arr6 m c)

/-- The widened incoming gradient at the region's end is the argument. -/
theorem XE_do : XE m c (Proc.devRef .tc main_v0_3) = fun j : S1x1024x32x64.Idx => (m (c.tc.loc main_arg8) j : EReal) :=
  (Pipeline.withArrays_arr spec0 (by decide +kernel) c (V0 m c) _ 7).trans (arr7 m c)

/-- The head of the contents at the region's end is the head of the arguments. -/
theorem XH_XE (h : Fin 32) : XH (XE m c) h = RH m c h := by
  unfold XH RH
  rw [XE_q, XE_k, XE_v, XE_do, XE_of_ne m c main_arg1 (by decide +kernel), XE_of_ne m c main_arg3 (by decide +kernel),
    XE_of_ne m c main_arg5 (by decide +kernel), XE_of_ne m c main_arg6 (by decide +kernel), XE_of_ne m c main_arg7 (by decide +kernel),
    XE_of_ne m c main_arg9 (by decide +kernel)]
  rfl

/-- The host lines after the region, line list by line list. -/
theorem tail_eq (b : Ref sig .tc) : Pipeline.afterTail₀ cfgs (dats m) 0 (V0 m) [hostOps1, hostOps1_1, hostOps1_2] c b
    = StableHlo.after hostOps1_2 (StableHlo.after hostOps1_1 (StableHlo.after hostOps1 (XE m c))) (Proc.devRef .tc b) := by
  unfold Pipeline.afterTail₀
  rw [List.flatten_cons, List.flatten_cons, List.flatten_cons, List.flatten_nil, List.append_nil, StableHlo.after_append, StableHlo.after_append]

section
variable (h0 : ∀ i : S1x1024x32.Idx, (0 : EReal) ≤ m (c.tc.loc main_arg9) i) (ht : ∀ i : S1x1024x32.Idx, m (c.tc.loc main_arg9) i ≠ (⊤ : EReal))
include h0 ht

/-- The query gradient the reference leaves. -/
theorem rtail75 (s : Fin 1024) (h : Fin 32) (d : Fin 64) :
    Pipeline.afterTail₀ cfgs (dats m) 0 (V0 m) [hostOps1, hostOps1_1, hostOps1_2] c main_v75 (ix4 0 s h d) = (RH m c h).DQ d s := by
  rw [tail_eq, res75, XH_XE]
  exact (RH m c h).ref_DQ rfl (fun _ => h0 _) (fun _ => ht _) d s

/-- One head's key gradient by the reference's formula, of the contents at the region's end. -/
theorem head_DK (h : Fin 32) (d : Fin 64) (s : Fin 1024) :
    ∑ q, (XH (XE m c) h).q d q * (XH (XE m c) h).qs * ((XH (XE m c) h).rp s q * (XH (XE m c) h).rt s q) = (RH m c h).DK d s := by
  rw [XH_XE]
  exact (RH m c h).ref_DK rfl (fun _ => h0 _) (fun _ => ht _) d s

/-- The key gradient the reference leaves. -/
theorem rtail76 (s : Fin 1024) (h : Fin 4) (d : Fin 64) :
    Pipeline.afterTail₀ cfgs (dats m) 0 (V0 m) [hostOps1, hostOps1_1, hostOps1_2] c main_v76 (ix4 0 s h d)
      = (∑ j : Fin 8, (RH m c (mem h j)).DK d s) * Ideal.ofBits FTy.f32 1040187392#32 := by
  have e := Finset.sum_congr (s₁ := Finset.univ) rfl fun (j : Fin 8) _ => head_DK m c h0 ht (mem h j) d s
  rw [← e, tail_eq]
  exact res76 (XE m c) s h d
end

/-- The value gradient the reference leaves. -/
theorem rtail77 (s : Fin 1024) (h : Fin 4) (d : Fin 64) :
    Pipeline.afterTail₀ cfgs (dats m) 0 (V0 m) [hostOps1, hostOps1_1, hostOps1_2] c main_v77 (ix4 0 s h d)
      = ∑ j : Fin 8, (RH m c (mem h j)).DV d s := by
  rw [tail_eq, res77]
  show @Eq EReal _ _
  refine Finset.sum_congr rfl fun j _ => ?_
  rw [XH_XE]
  exact (RH m c (mem h j)).ref_DV rfl d s

end Cert.ReferenceIdeal.Gen
end
-- ==== Proof.PreScales.lean ====
/- THE PRECONDITION: its shape facts, and what it says of the incoming gradient's row scales. -/
module

public import proofs.«01_k».proof.Defs
public import Idealize.ShloMosaic.Lib.ReduceAll
public import Idealize.ShloMosaic.Lib.Pointwise

@[expose] public section

set_option maxRecDepth 16384

noncomputable section

namespace Cert.Pre_scales_of_do_are_scales
open Idealize.ShloMosaic Idealize.ShloMosaic.Tactic

/-- The precondition's shape facts hold. -/
theorem facts : Facts where
  bcast_S_S1x1024x32 := by decide
  reducesTo_S1x1024x32_S_d0_1_2 := by decide
  h_S_ := by decide

/-- Where the precondition is all ones, every row scale of the incoming gradient is at least zero and is not infinite. -/
theorem scales [Facts] {a0 a1 a2 a3 a4 a5 a6 a7 a8} {x : FVec Ideal S1x1024x32 .f32}
    (h : ∀ j, fn (F := Ideal) a0 a1 a2 a3 a4 a5 a6 a7 a8 x j = 1#1) (i : S1x1024x32.Idx) : (0 : EReal) ≤ x i ∧ (x i : EReal) ≠ ⊤ := by
  have e := h (fun a => a.elim0)
  dsimp only [fn] at e
  have e' := Host.reduce_andi_all _ _ _ _ _ e i
  pointwise at e'
  obtain ⟨p, q⟩ := IntOp.andi_eq_one.mp e'
  have tr : ∀ b : Bool, BitVec.ofBool b = 1#1 → b = true := by decide
  replace p := of_decide_eq_true (tr _ p)
  replace q := of_decide_eq_true (tr _ q)
  exact ⟨p, ne_top_of_lt q⟩

end Cert.Pre_scales_of_do_are_scales
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.RefTail
public import proofs.«01_k».proof.Proof.PreScales
public import Idealize.ShloMosaic.Adequacy
public import Idealize.ShloMosaic.Init

@[expose] public section

noncomputable section

namespace Cert.Proof

open Idealize.ShloMosaic Idealize.SL.Sem Cert.Kernel

/-- An index of a four-axis array whose first axis is one long. -/
theorem idx0 {a b d : Nat} (j : (⟨4, ![1, a, b, d]⟩ : Shape).Idx) : j = ix4 0 (j 1) (j 2) (j 3) :=
  (eq_ix4 j).trans (congrArg (fun x => ix4 x (j 1) (j 2) (j 3)) (Subsingleton.elim (α := Fin 1) _ _))

/-- The reference's head is the kernel's where the arguments agree: the kernel's named constant is the reciprocal of the logarithm of two. -/
theorem head_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h : Fin 32) : Cert.ReferenceIdeal.Gen.RH m' c h = Cert.KernelIdeal.Gen.AH m c h := by
  obtain ⟨e0, e1, e2, e3, e4, e5, e6, e7, e8, e9⟩ := e
  unfold Cert.ReferenceIdeal.Gen.RH Cert.KernelIdeal.Gen.AH
  rw [e0, e1, e2, e3, e4, e5, e6, e7, e8, e9, IdealRules.named_const.ideal_named_scalar _ _ _ _ rfl]

/-- The kernel's ideal run and the reference's leave the same three gradients, from arguments that agree and row scales that are scales. -/
theorem algebraic [Cert.Pre_scales_of_do_are_scales.Facts] : Cert.algebraic_KernelIdeal_ReferenceIdeal_pre_scales_of_do_are_scales := by
  intro m g m' g' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v15,
    fun c => Pipeline.afterTail₀ Cert.KernelIdeal.cfgs (Cert.KernelIdeal.Gen.dats m) 0 (Cert.KernelIdeal.Gen.V0 m) [Cert.KernelIdeal.Gen.hostOps1] c Cert.KernelIdeal.main_v17,
    fun c => Pipeline.afterTail₀ Cert.KernelIdeal.cfgs (Cert.KernelIdeal.Gen.dats m) 0 (Cert.KernelIdeal.Gen.V0 m) [Cert.KernelIdeal.Gen.hostOps1] c Cert.KernelIdeal.main_v19, ?_, ?_⟩
  · refine (θ_run Cert.KernelIdeal.defs _ _).mono (fun r h c => ?_) (θ_run_and (Cert.KernelIdeal.Gen.run_main m g) (Cert.KernelIdeal.Gen.unchanged m g))
    exact ⟨(h.1 c).2 _ (Pipeline.mem_restRefs_of _ (by decide) (by decide)), (h.1 c).2 _ (Pipeline.mem_restRefs_of _ (by decide) (by decide)),
      (h.1 c).2 _ (Pipeline.mem_restRefs_of _ (by decide) (by decide)), h.2 c⟩
  · refine (θ_run Cert.ReferenceIdeal.defs _ _).mono (fun r h c => ?_) (θ_run_and (Cert.ReferenceIdeal.Gen.run_main m' g') (Cert.ReferenceIdeal.Gen.unchanged m' g'))
    have hs := Cert.Pre_scales_of_do_are_scales.scales (fun j => congrFun (hpre c) j)
    have h9 := (hagree c).2.2.2.2.2.2.2.2.2
    have h0 : ∀ i : Cert.ReferenceIdeal.S1x1024x32.Idx, (0 : EReal) ≤ m' (c.tc.loc Cert.ReferenceIdeal.main_arg9) i := fun i => by
      rw [h9]; exact (hs i).1
    have ht : ∀ i : Cert.ReferenceIdeal.S1x1024x32.Idx, m' (c.tc.loc Cert.ReferenceIdeal.main_arg9) i ≠ (⊤ : EReal) := fun i => by
      rw [h9]; exact (hs i).2
    refine ⟨((h.1 c).2 _ (Pipeline.mem_restRefs_of _ (by decide) (by decide))).trans (funext fun j => ?_),
      ((h.1 c).2 _ (Pipeline.mem_restRefs_of _ (by decide) (by decide))).trans (funext fun j => ?_),
      ((h.1 c).2 _ (Pipeline.mem_restRefs_of _ (by decide) (by decide))).trans (funext fun j => ?_), h.2 c⟩
    · rw [idx0 j]
      exact (Cert.ReferenceIdeal.Gen.rtail75 m' c h0 ht _ _ _).trans
        ((congrArg (fun H : Cert.Bwd.Head => H.DQ _ _) (head_eq m m' c (hagree c) _)).trans (Cert.KernelIdeal.Gen.tail15 m c _ _ _).symm)
    · rw [idx0 j]
      refine (Cert.ReferenceIdeal.Gen.rtail76 m' c h0 ht _ _ _).trans (Eq.trans ?_ (Cert.KernelIdeal.Gen.tail17 m c _ _ _).symm)
      exact congrArg (fun a : EReal => a * Ideal.ofBits FTy.f32 1040187392#32)
        (Finset.sum_congr rfl fun k _ => congrArg (fun H : Cert.Bwd.Head => H.DK _ _) (head_eq m m' c (hagree c) _))
    · rw [idx0 j]
      refine (Cert.ReferenceIdeal.Gen.rtail77 m' c _ _ _).trans (Eq.trans ?_ (Cert.KernelIdeal.Gen.tail19 m c _ _ _).symm)
      exact Finset.sum_congr (M := EReal) rfl fun k _ => congrArg (fun H : Cert.Bwd.Head => H.DV _ _) (head_eq m m' c (hagree c) _)

/-- Every claim of the certificate: the three frames, that the ideal kernel is the kernel over the extended reals, and the equality of results. -/
theorem claim : Cert.Claim := ⟨Cert.Kernel.Gen.facts, Cert.KernelIdeal.Gen.facts, Cert.ReferenceIdeal.Gen.facts,
  Cert.Pre_scales_of_do_are_scales.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  IdealRules.named_const.statement Cert.KernelIdeal.κ "log2e" .f32 0x3FB8AA3B#32 (((Real.log 2)⁻¹ : ℝ) : EReal) rfl,
  @algebraic Cert.Pre_scales_of_do_are_scales.facts⟩

end Cert.Proof

end
